-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![64, 2048]⟩ ⟨2, ![64, 4096]⟩ (Layout.meshBlock [2, 2] ![[], [1]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![2048, 4096]⟩ ⟨2, ![4096, 8192]⟩ (Layout.meshBlock [2, 2] ![[1], [0]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨2, ![4096, 2048]⟩ ⟨2, ![8192, 4096]⟩ (Layout.meshBlock [2, 2] ![[0], [1]] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨2, ![2048, 4096]⟩ ⟨2, ![4096, 8192]⟩ (Layout.meshBlock [2, 2] ![[1], [0]] c) (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.blockN ⟨2, ![4096, 2048]⟩ ⟨2, ![8192, 4096]⟩ (Layout.meshBlock [2, 2] ![[0], [1]] c) (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.blockN ⟨2, ![2048, 4096]⟩ ⟨2, ![4096, 8192]⟩ (Layout.meshBlock [2, 2] ![[1], [0]] c) (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.blockN ⟨2, ![4096, 2048]⟩ ⟨2, ![8192, 4096]⟩ (Layout.meshBlock [2, 2] ![[0], [1]] c) (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![64, 2048]⟩ ⟨2, ![64, 4096]⟩ (Layout.meshBlock [2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x2048 : Shape := ⟨2, ![64, 2048]⟩
abbrev S2048x4096 : Shape := ⟨2, ![2048, 4096]⟩
abbrev S4096x2048 : Shape := ⟨2, ![4096, 2048]⟩
abbrev S3x4096x512 : Shape := ⟨3, ![3, 4096, 512]⟩
abbrev S3 : Shape := ⟨1, ![3]⟩
abbrev S8x64x512 : Shape := ⟨3, ![8, 64, 512]⟩
abbrev S6x8x64x512 : Shape := ⟨4, ![6, 8, 64, 512]⟩
abbrev S6x8 : Shape := ⟨2, ![6, 8]⟩
abbrev S64x4096 : Shape := ⟨2, ![64, 4096]⟩
abbrev S_ : Shape := ⟨0, ![]⟩
abbrev S1 : Shape := ⟨1, ![1]⟩
abbrev S1x2048x512 : Shape := ⟨3, ![1, 2048, 512]⟩
abbrev S2048x512 : Shape := ⟨2, ![2048, 512]⟩
abbrev S64x512 : Shape := ⟨2, ![64, 512]⟩
abbrev S1x64x512 : Shape := ⟨3, ![1, 64, 512]⟩
abbrev S1x1 : Shape := ⟨2, ![1, 1]⟩
abbrev S1x1x64x512 : Shape := ⟨4, ![1, 1, 64, 512]⟩
abbrev S1x4096x512 : Shape := ⟨3, ![1, 4096, 512]⟩
abbrev S4096x512 : Shape := ⟨2, ![4096, 512]⟩

abbrev nBuf : Space → Nat
  | .hbm => 8
  | .vmem => 7
  | .smem => 0
  | _ => 0

abbrev bufTy : (tb : Table) → Fin (tcTables nBuf tb) → BufTy
  | .hbm, ⟨0, _⟩ => ⟨S64x2048, .f32⟩
  | .hbm, ⟨1, _⟩ => ⟨S2048x4096, .f32⟩
  | .hbm, ⟨2, _⟩ => ⟨S4096x2048, .f32⟩
  | .hbm, ⟨3, _⟩ => ⟨S2048x4096, .f32⟩
  | .hbm, ⟨4, _⟩ => ⟨S4096x2048, .f32⟩
  | .hbm, ⟨5, _⟩ => ⟨S2048x4096, .f32⟩
  | .hbm, ⟨6, _⟩ => ⟨S4096x2048, .f32⟩
  | .hbm, ⟨7, _⟩ => ⟨S64x2048, .f32⟩
  | .local _ .vmem, ⟨0, _⟩ => ⟨S64x2048, .f32⟩
  | .local _ .vmem, ⟨1, _⟩ => ⟨S64x2048, .f32⟩
  | .local _ .vmem, ⟨2, _⟩ => ⟨S3x4096x512, .f32⟩
  | .local _ .vmem, ⟨3, _⟩ => ⟨S8x64x512, .f32⟩
  | .local _ .vmem, ⟨4, _⟩ => ⟨S6x8x64x512, .f32⟩
  | .local _ .vmem, ⟨5, _⟩ => ⟨S64x4096, .f32⟩
  | .local _ .vmem, ⟨6, _⟩ => ⟨S64x2048, .f32⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 101 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | _ => false

abbrev sig : RefSig :=
  (ofTc nBuf bufTy 1 101 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch6 : Ref sig .tc := ⟨.vmem, 5, rfl⟩
abbrev cc0_scratch7 : Ref sig .tc := ⟨.vmem, 6, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5 : BitVec 32 := 2#32
  let v9 : BitVec 32 := Scalar.muli v2 c2_i32_5
  let v10 : BitVec 32 := Scalar.addi c0_i32 v9
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_6 : BitVec 32 := 1#32
  let v11 : BitVec 32 := Scalar.muli v6 c1_i32_6
  let v12 : BitVec 32 := Scalar.addi v10 v11
  v12.toNat
def k0_dev2 (d0 : Dev nD) : Nat :=
  let c0_i32_9 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_8 : BitVec 32 := 2#32
  let v13 : BitVec 32 := Scalar.muli v7 c2_i32_8
  let v14 : BitVec 32 := Scalar.addi c0_i32_9 v13
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_10 : BitVec 32 := 1#32
  let v15 : BitVec 32 := Scalar.muli v5 c1_i32_10
  let v16 : BitVec 32 := Scalar.addi v14 v15
  v16.toNat
def k0_dev3 (d0 : Dev nD) : Nat :=
  let c0_i32_49 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_48 : BitVec 32 := 2#32
  let v45 : BitVec 32 := Scalar.muli v2 c2_i32_48
  let v46 : BitVec 32 := Scalar.addi c0_i32_49 v45
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_50 : BitVec 32 := 1#32
  let v47 : BitVec 32 := Scalar.muli v6 c1_i32_50
  let v48 : BitVec 32 := Scalar.addi v46 v47
  v48.toNat
def k0_dev4 (d0 : Dev nD) : Nat :=
  let c0_i32_82 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_81 : BitVec 32 := 2#32
  let v75 : BitVec 32 := Scalar.muli v2 c2_i32_81
  let v76 : BitVec 32 := Scalar.addi c0_i32_82 v75
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_83 : BitVec 32 := 1#32
  let v77 : BitVec 32 := Scalar.muli v6 c1_i32_83
  let v78 : BitVec 32 := Scalar.addi v76 v77
  v78.toNat
def k0_dev5 (d0 : Dev nD) : Nat :=
  let c0_i32_115 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_114 : BitVec 32 := 2#32
  let v105 : BitVec 32 := Scalar.muli v2 c2_i32_114
  let v106 : BitVec 32 := Scalar.addi c0_i32_115 v105
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_116 : BitVec 32 := 1#32
  let v107 : BitVec 32 := Scalar.muli v6 c1_i32_116
  let v108 : BitVec 32 := Scalar.addi v106 v107
  v108.toNat
def k0_dev6 (d0 : Dev nD) : Nat :=
  let c0_i32_147 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_146 : BitVec 32 := 2#32
  let v135 : BitVec 32 := Scalar.muli v2 c2_i32_146
  let v136 : BitVec 32 := Scalar.addi c0_i32_147 v135
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_148 : BitVec 32 := 1#32
  let v137 : BitVec 32 := Scalar.muli v6 c1_i32_148
  let v138 : BitVec 32 := Scalar.addi v136 v137
  v138.toNat
def k0_dev7 (d0 : Dev nD) : Nat :=
  let c0_i32_179 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_178 : BitVec 32 := 2#32
  let v165 : BitVec 32 := Scalar.muli v2 c2_i32_178
  let v166 : BitVec 32 := Scalar.addi c0_i32_179 v165
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_180 : BitVec 32 := 1#32
  let v167 : BitVec 32 := Scalar.muli v6 c1_i32_180
  let v168 : BitVec 32 := Scalar.addi v166 v167
  v168.toNat
def k0_dev8 (d0 : Dev nD) : Nat :=
  let c0_i32_211 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_210 : BitVec 32 := 2#32
  let v195 : BitVec 32 := Scalar.muli v2 c2_i32_210
  let v196 : BitVec 32 := Scalar.addi c0_i32_211 v195
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_212 : BitVec 32 := 1#32
  let v197 : BitVec 32 := Scalar.muli v6 c1_i32_212
  let v198 : BitVec 32 := Scalar.addi v196 v197
  v198.toNat
def k0_dev9 (d0 : Dev nD) : Nat :=
  let c0_i32_244 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_243 : BitVec 32 := 2#32
  let v225 : BitVec 32 := Scalar.muli v2 c2_i32_243
  let v226 : BitVec 32 := Scalar.addi c0_i32_244 v225
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_245 : BitVec 32 := 1#32
  let v227 : BitVec 32 := Scalar.muli v6 c1_i32_245
  let v228 : BitVec 32 := Scalar.addi v226 v227
  v228.toNat
def k0_dev10 (d0 : Dev nD) : Nat :=
  let c0_i32_277 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_276 : BitVec 32 := 2#32
  let v255 : BitVec 32 := Scalar.muli v2 c2_i32_276
  let v256 : BitVec 32 := Scalar.addi c0_i32_277 v255
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_278 : BitVec 32 := 1#32
  let v257 : BitVec 32 := Scalar.muli v6 c1_i32_278
  let v258 : BitVec 32 := Scalar.addi v256 v257
  v258.toNat
def k0_dev11 (d0 : Dev nD) : Nat :=
  let c0_i32_593 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_592 : BitVec 32 := 2#32
  let v492 : BitVec 32 := Scalar.muli v7 c2_i32_592
  let v493 : BitVec 32 := Scalar.addi c0_i32_593 v492
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_594 : BitVec 32 := 1#32
  let v494 : BitVec 32 := Scalar.muli v5 c1_i32_594
  let v495 : BitVec 32 := Scalar.addi v493 v494
  v495.toNat
def k0_dev12 (d0 : Dev nD) : Nat :=
  let c0_i32_628 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_627 : BitVec 32 := 2#32
  let v521 : BitVec 32 := Scalar.muli v7 c2_i32_627
  let v522 : BitVec 32 := Scalar.addi c0_i32_628 v521
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_629 : BitVec 32 := 1#32
  let v523 : BitVec 32 := Scalar.muli v5 c1_i32_629
  let v524 : BitVec 32 := Scalar.addi v522 v523
  v524.toNat
def k0_dev13 (d0 : Dev nD) : Nat :=
  let c0_i32_663 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_662 : BitVec 32 := 2#32
  let v550 : BitVec 32 := Scalar.muli v7 c2_i32_662
  let v551 : BitVec 32 := Scalar.addi c0_i32_663 v550
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_664 : BitVec 32 := 1#32
  let v552 : BitVec 32 := Scalar.muli v5 c1_i32_664
  let v553 : BitVec 32 := Scalar.addi v551 v552
  v553.toNat
def k0_dev14 (d0 : Dev nD) : Nat :=
  let c0_i32_698 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_697 : BitVec 32 := 2#32
  let v579 : BitVec 32 := Scalar.muli v7 c2_i32_697
  let v580 : BitVec 32 := Scalar.addi c0_i32_698 v579
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_699 : BitVec 32 := 1#32
  let v581 : BitVec 32 := Scalar.muli v5 c1_i32_699
  let v582 : BitVec 32 := Scalar.addi v580 v581
  v582.toNat
def k0_dev15 (d0 : Dev nD) : Nat :=
  let c0_i32_873 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_872 : BitVec 32 := 2#32
  let v704 : BitVec 32 := Scalar.muli v2 c2_i32_872
  let v705 : BitVec 32 := Scalar.addi c0_i32_873 v704
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_874 : BitVec 32 := 1#32
  let v706 : BitVec 32 := Scalar.muli v6 c1_i32_874
  let v707 : BitVec 32 := Scalar.addi v705 v706
  v707.toNat
def k0_dev16 (d0 : Dev nD) : Nat :=
  let c0_i32_908 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_907 : BitVec 32 := 2#32
  let v733 : BitVec 32 := Scalar.muli v2 c2_i32_907
  let v734 : BitVec 32 := Scalar.addi c0_i32_908 v733
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_909 : BitVec 32 := 1#32
  let v735 : BitVec 32 := Scalar.muli v6 c1_i32_909
  let v736 : BitVec 32 := Scalar.addi v734 v735
  v736.toNat
def k0_dev17 (d0 : Dev nD) : Nat :=
  let c0_i32_943 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_942 : BitVec 32 := 2#32
  let v762 : BitVec 32 := Scalar.muli v2 c2_i32_942
  let v763 : BitVec 32 := Scalar.addi c0_i32_943 v762
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_944 : BitVec 32 := 1#32
  let v764 : BitVec 32 := Scalar.muli v6 c1_i32_944
  let v765 : BitVec 32 := Scalar.addi v763 v764
  v765.toNat
def k0_dev18 (d0 : Dev nD) : Nat :=
  let c0_i32_978 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_977 : BitVec 32 := 2#32
  let v791 : BitVec 32 := Scalar.muli v2 c2_i32_977
  let v792 : BitVec 32 := Scalar.addi c0_i32_978 v791
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_979 : BitVec 32 := 1#32
  let v793 : BitVec 32 := Scalar.muli v6 c1_i32_979
  let v794 : BitVec 32 := Scalar.addi v792 v793
  v794.toNat
def k0_dev19 (d0 : Dev nD) : Nat :=
  let c0_i32_1013 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1012 : BitVec 32 := 2#32
  let v820 : BitVec 32 := Scalar.muli v2 c2_i32_1012
  let v821 : BitVec 32 := Scalar.addi c0_i32_1013 v820
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1014 : BitVec 32 := 1#32
  let v822 : BitVec 32 := Scalar.muli v6 c1_i32_1014
  let v823 : BitVec 32 := Scalar.addi v821 v822
  v823.toNat
def k0_dev20 (d0 : Dev nD) : Nat :=
  let c0_i32_1048 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1047 : BitVec 32 := 2#32
  let v849 : BitVec 32 := Scalar.muli v2 c2_i32_1047
  let v850 : BitVec 32 := Scalar.addi c0_i32_1048 v849
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1049 : BitVec 32 := 1#32
  let v851 : BitVec 32 := Scalar.muli v6 c1_i32_1049
  let v852 : BitVec 32 := Scalar.addi v850 v851
  v852.toNat
def k0_dev21 (d0 : Dev nD) : Nat :=
  let c0_i32_1083 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1082 : BitVec 32 := 2#32
  let v878 : BitVec 32 := Scalar.muli v2 c2_i32_1082
  let v879 : BitVec 32 := Scalar.addi c0_i32_1083 v878
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1084 : BitVec 32 := 1#32
  let v880 : BitVec 32 := Scalar.muli v6 c1_i32_1084
  let v881 : BitVec 32 := Scalar.addi v879 v880
  v881.toNat
def k0_dev22 (d0 : Dev nD) : Nat :=
  let c0_i32_1118 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1117 : BitVec 32 := 2#32
  let v907 : BitVec 32 := Scalar.muli v2 c2_i32_1117
  let v908 : BitVec 32 := Scalar.addi c0_i32_1118 v907
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1119 : BitVec 32 := 1#32
  let v909 : BitVec 32 := Scalar.muli v6 c1_i32_1119
  let v910 : BitVec 32 := Scalar.addi v908 v909
  v910.toNat
def k0_dev23 (d0 : Dev nD) : Nat :=
  let c0_i32_1441 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1440 : BitVec 32 := 2#32
  let v1144 : BitVec 32 := Scalar.muli v7 c2_i32_1440
  let v1145 : BitVec 32 := Scalar.addi c0_i32_1441 v1144
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1442 : BitVec 32 := 1#32
  let v1146 : BitVec 32 := Scalar.muli v5 c1_i32_1442
  let v1147 : BitVec 32 := Scalar.addi v1145 v1146
  v1147.toNat
def k0_dev24 (d0 : Dev nD) : Nat :=
  let c0_i32_1476 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1475 : BitVec 32 := 2#32
  let v1173 : BitVec 32 := Scalar.muli v7 c2_i32_1475
  let v1174 : BitVec 32 := Scalar.addi c0_i32_1476 v1173
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1477 : BitVec 32 := 1#32
  let v1175 : BitVec 32 := Scalar.muli v5 c1_i32_1477
  let v1176 : BitVec 32 := Scalar.addi v1174 v1175
  v1176.toNat
def k0_dev25 (d0 : Dev nD) : Nat :=
  let c0_i32_1511 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1510 : BitVec 32 := 2#32
  let v1202 : BitVec 32 := Scalar.muli v7 c2_i32_1510
  let v1203 : BitVec 32 := Scalar.addi c0_i32_1511 v1202
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1512 : BitVec 32 := 1#32
  let v1204 : BitVec 32 := Scalar.muli v5 c1_i32_1512
  let v1205 : BitVec 32 := Scalar.addi v1203 v1204
  v1205.toNat
def k0_dev26 (d0 : Dev nD) : Nat :=
  let c0_i32_1546 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1545 : BitVec 32 := 2#32
  let v1231 : BitVec 32 := Scalar.muli v7 c2_i32_1545
  let v1232 : BitVec 32 := Scalar.addi c0_i32_1546 v1231
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1547 : BitVec 32 := 1#32
  let v1233 : BitVec 32 := Scalar.muli v5 c1_i32_1547
  let v1234 : BitVec 32 := Scalar.addi v1232 v1233
  v1234.toNat
def k0_dev27 (d0 : Dev nD) : Nat :=
  let c0_i32_1721 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1720 : BitVec 32 := 2#32
  let v1356 : BitVec 32 := Scalar.muli v2 c2_i32_1720
  let v1357 : BitVec 32 := Scalar.addi c0_i32_1721 v1356
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1722 : BitVec 32 := 1#32
  let v1358 : BitVec 32 := Scalar.muli v6 c1_i32_1722
  let v1359 : BitVec 32 := Scalar.addi v1357 v1358
  v1359.toNat
def k0_dev28 (d0 : Dev nD) : Nat :=
  let c0_i32_1756 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1755 : BitVec 32 := 2#32
  let v1385 : BitVec 32 := Scalar.muli v2 c2_i32_1755
  let v1386 : BitVec 32 := Scalar.addi c0_i32_1756 v1385
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1757 : BitVec 32 := 1#32
  let v1387 : BitVec 32 := Scalar.muli v6 c1_i32_1757
  let v1388 : BitVec 32 := Scalar.addi v1386 v1387
  v1388.toNat
def k0_dev29 (d0 : Dev nD) : Nat :=
  let c0_i32_1791 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1790 : BitVec 32 := 2#32
  let v1414 : BitVec 32 := Scalar.muli v2 c2_i32_1790
  let v1415 : BitVec 32 := Scalar.addi c0_i32_1791 v1414
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1792 : BitVec 32 := 1#32
  let v1416 : BitVec 32 := Scalar.muli v6 c1_i32_1792
  let v1417 : BitVec 32 := Scalar.addi v1415 v1416
  v1417.toNat
def k0_dev30 (d0 : Dev nD) : Nat :=
  let c0_i32_1826 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1825 : BitVec 32 := 2#32
  let v1443 : BitVec 32 := Scalar.muli v2 c2_i32_1825
  let v1444 : BitVec 32 := Scalar.addi c0_i32_1826 v1443
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1827 : BitVec 32 := 1#32
  let v1445 : BitVec 32 := Scalar.muli v6 c1_i32_1827
  let v1446 : BitVec 32 := Scalar.addi v1444 v1445
  v1446.toNat
def k0_dev31 (d0 : Dev nD) : Nat :=
  let c0_i32_1861 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1860 : BitVec 32 := 2#32
  let v1472 : BitVec 32 := Scalar.muli v2 c2_i32_1860
  let v1473 : BitVec 32 := Scalar.addi c0_i32_1861 v1472
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1862 : BitVec 32 := 1#32
  let v1474 : BitVec 32 := Scalar.muli v6 c1_i32_1862
  let v1475 : BitVec 32 := Scalar.addi v1473 v1474
  v1475.toNat
def k0_dev32 (d0 : Dev nD) : Nat :=
  let c0_i32_1896 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1895 : BitVec 32 := 2#32
  let v1501 : BitVec 32 := Scalar.muli v2 c2_i32_1895
  let v1502 : BitVec 32 := Scalar.addi c0_i32_1896 v1501
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1897 : BitVec 32 := 1#32
  let v1503 : BitVec 32 := Scalar.muli v6 c1_i32_1897
  let v1504 : BitVec 32 := Scalar.addi v1502 v1503
  v1504.toNat
def k0_dev33 (d0 : Dev nD) : Nat :=
  let c0_i32_1931 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1930 : BitVec 32 := 2#32
  let v1530 : BitVec 32 := Scalar.muli v2 c2_i32_1930
  let v1531 : BitVec 32 := Scalar.addi c0_i32_1931 v1530
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1932 : BitVec 32 := 1#32
  let v1532 : BitVec 32 := Scalar.muli v6 c1_i32_1932
  let v1533 : BitVec 32 := Scalar.addi v1531 v1532
  v1533.toNat
def k0_dev34 (d0 : Dev nD) : Nat :=
  let c0_i32_1966 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1965 : BitVec 32 := 2#32
  let v1559 : BitVec 32 := Scalar.muli v2 c2_i32_1965
  let v1560 : BitVec 32 := Scalar.addi c0_i32_1966 v1559
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1967 : BitVec 32 := 1#32
  let v1561 : BitVec 32 := Scalar.muli v6 c1_i32_1967
  let v1562 : BitVec 32 := Scalar.addi v1560 v1561
  v1562.toNat
def k0_dev35 (d0 : Dev nD) : Nat :=
  let c0_i32_2289 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2288 : BitVec 32 := 2#32
  let v1796 : BitVec 32 := Scalar.muli v7 c2_i32_2288
  let v1797 : BitVec 32 := Scalar.addi c0_i32_2289 v1796
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2290 : BitVec 32 := 1#32
  let v1798 : BitVec 32 := Scalar.muli v5 c1_i32_2290
  let v1799 : BitVec 32 := Scalar.addi v1797 v1798
  v1799.toNat
def k0_dev36 (d0 : Dev nD) : Nat :=
  let c0_i32_2324 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2323 : BitVec 32 := 2#32
  let v1825 : BitVec 32 := Scalar.muli v7 c2_i32_2323
  let v1826 : BitVec 32 := Scalar.addi c0_i32_2324 v1825
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2325 : BitVec 32 := 1#32
  let v1827 : BitVec 32 := Scalar.muli v5 c1_i32_2325
  let v1828 : BitVec 32 := Scalar.addi v1826 v1827
  v1828.toNat
def k0_dev37 (d0 : Dev nD) : Nat :=
  let c0_i32_2353 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2352 : BitVec 32 := 2#32
  let v1849 : BitVec 32 := Scalar.muli v7 c2_i32_2352
  let v1850 : BitVec 32 := Scalar.addi c0_i32_2353 v1849
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2354 : BitVec 32 := 1#32
  let v1851 : BitVec 32 := Scalar.muli v5 c1_i32_2354
  let v1852 : BitVec 32 := Scalar.addi v1850 v1851
  v1852.toNat
def k0_dev38 (d0 : Dev nD) : Nat :=
  let c0_i32_2382 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2381 : BitVec 32 := 2#32
  let v1873 : BitVec 32 := Scalar.muli v7 c2_i32_2381
  let v1874 : BitVec 32 := Scalar.addi c0_i32_2382 v1873
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2383 : BitVec 32 := 1#32
  let v1875 : BitVec 32 := Scalar.muli v5 c1_i32_2383
  let v1876 : BitVec 32 := Scalar.addi v1874 v1875
  v1876.toNat
abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S64x4096 : Shape := ⟨2, ![64, 4096]⟩
abbrev S4096x8192 : Shape := ⟨2, ![4096, 8192]⟩
abbrev S8192x4096 : Shape := ⟨2, ![8192, 4096]⟩
abbrev S64x8192 : Shape := ⟨2, ![64, 8192]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S64x4096, .f32⟩
  | .hbm, ⟨1, _⟩ => ⟨S4096x8192, .f32⟩
  | .hbm, ⟨2, _⟩ => ⟨S8192x4096, .f32⟩
  | .hbm, ⟨3, _⟩ => ⟨S4096x8192, .f32⟩
  | .hbm, ⟨4, _⟩ => ⟨S8192x4096, .f32⟩
  | .hbm, ⟨5, _⟩ => ⟨S4096x8192, .f32⟩
  | .hbm, ⟨6, _⟩ => ⟨S8192x4096, .f32⟩
  | .hbm, ⟨7, _⟩ => ⟨S64x8192, .f32⟩
  | .hbm, ⟨8, _⟩ => ⟨S_, .f32⟩
  | .hbm, ⟨9, _⟩ => ⟨S64x8192, .f32⟩
  | .hbm, ⟨10, _⟩ => ⟨S64x8192, .f32⟩
  | .hbm, ⟨11, _⟩ => ⟨S64x4096, .f32⟩
  | .hbm, ⟨12, _⟩ => ⟨S64x8192, .f32⟩
  | .hbm, ⟨13, _⟩ => ⟨S_, .f32⟩
  | .hbm, ⟨14, _⟩ => ⟨S64x8192, .f32⟩
  | .hbm, ⟨15, _⟩ => ⟨S64x8192, .f32⟩
  | .hbm, ⟨16, _⟩ => ⟨S64x4096, .f32⟩
  | .hbm, ⟨17, _⟩ => ⟨S64x8192, .f32⟩
  | .hbm, ⟨18, _⟩ => ⟨S_, .f32⟩
  | .hbm, ⟨19, _⟩ => ⟨S64x8192, .f32⟩
  | .hbm, ⟨20, _⟩ => ⟨S64x8192, .f32⟩
  | .hbm, ⟨21, _⟩ => ⟨S64x4096, .f32⟩
  | _, _ => ⟨S64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Ideal.Prog.lean ====
/- The body of the kernel, said once over its layers, tiles and blocks.

   The printed body is one long straight line. Here it is written as what it repeats: three layers,
   each of eight tiles of an upward product, their exchange, four tiles of a downward product, their
   exchange. `body_eq` says that the printed body is this one. -/
module

public import proofs.«01_k».proof.Proof.Gen.KernelIdeal.Launch
public import proofs.«01_k».proof.Proof.Gen.KernelIdeal.Points
public import proofs.«01_k».proof.Proof.Gen.KernelIdeal.Skeleton

@[expose] public section

noncomputable section

namespace Cert.KernelIdeal.Mlp

open Cert.KernelIdeal Cert.KernelIdeal.Gen
open Idealize.ShloMosaic Idealize.ShloMosaic.TcCoe
open Idealize.SL.Sem
open Idealize.ShloMosaic.Pipeline (chain)

variable {F : FTy → Type} [FloatOps F]

/-! ## The peers -/

/-- The device beside `d` along the mesh's second axis. -/
def yd (d : Dev nD) : Dev nD := ⟨k0_dev1 d, Facts₀.k0_dev1_lt d⟩
/-- The device beside `d` along the mesh's first axis. -/
def xd (d : Dev nD) : Dev nD := ⟨k0_dev2 d, Facts₀.k0_dev2_lt d⟩

/-! ## The buffers -/

abbrev xM : Memref sig .tc .vmem S64x2048 .f32 := Memref.whole cc0_stg0_0
abbrev oM : Memref sig .tc .vmem S64x2048 .f32 := Memref.whole cc0_stg1_0
abbrev wM : Memref sig .tc .vmem S3x4096x512 .f32 := Memref.whole cc0_scratch0
abbrev aM : Memref sig .tc .vmem S8x64x512 .f32 := Memref.whole cc0_scratch2
abbrev rM : Memref sig .tc .vmem S6x8x64x512 .f32 := Memref.whole cc0_scratch3
abbrev hM : Memref sig .tc .vmem S64x4096 .f32 := Memref.whole cc0_scratch6
abbrev x2M : Memref sig .tc .vmem S64x2048 .f32 := Memref.whole cc0_scratch7

/-- The weights of layer `l`'s upward product. -/
def wInR : Fin 3 → Ref sig .tc | 0 => main_arg1 | 1 => main_arg3 | 2 => main_arg5
/-- The weights of layer `l`'s downward product. -/
def wOutR : Fin 3 → Ref sig .tc | 0 => main_arg2 | 1 => main_arg4 | 2 => main_arg6

abbrev wIn : Fin 3 → Memref sig .tc .hbm S2048x4096 .f32
  | 0 => Memref.whole main_arg1 | 1 => Memref.whole main_arg3 | 2 => Memref.whole main_arg5
abbrev wOut : Fin 3 → Memref sig .tc .hbm S4096x2048 .f32
  | 0 => Memref.whole main_arg2 | 1 => Memref.whole main_arg4 | 2 => Memref.whole main_arg6
/-- What layer `l` reads, and what it leaves its result in. -/
abbrev act : Fin 3 → Memref sig .tc .vmem S64x2048 .f32 | 0 => xM | 1 => x2M | 2 => x2M
abbrev dst : Fin 3 → Memref sig .tc .vmem S64x2048 .f32 | 0 => x2M | 1 => x2M | 2 => oM

/-! ## The rectangles lie in their buffers -/

theorem in_wsem (s : Fin 3) : ∀ a, (![(s : ℕ)] : Fin 1 → ℕ) a + S1.size a ≤ S3.size a := by
  intro a; fin_cases a; show (s : ℕ) + 1 ≤ 3; omega
theorem in_sem (i : Fin 6) (j : Fin 8) : ∀ a, (![(i : ℕ), (j : ℕ)] : Fin 2 → ℕ) a + S1x1.size a ≤ S6x8.size a := by
  intro a; fin_cases a
  · show (i : ℕ) + 1 ≤ 6; omega
  · show (j : ℕ) + 1 ≤ 8; omega
theorem in_slotE (s : Fin 3) : ∀ a, (![(s : ℕ), 0, 0] : Fin 3 → ℕ) a + S1x2048x512.size a ≤ S3x4096x512.size a := by
  intro a; fin_cases a
  · show (s : ℕ) + 1 ≤ 3; omega
  · show 0 + 2048 ≤ 4096; omega
  · show 0 + 512 ≤ 512; omega
theorem in_slotO (s : Fin 3) : ∀ a, (![(s : ℕ), 0, 0] : Fin 3 → ℕ) a + S1x4096x512.size a ≤ S3x4096x512.size a := by
  intro a; fin_cases a
  · show (s : ℕ) + 1 ≤ 3; omega
  · show 0 + 4096 ≤ 4096; omega
  · show 0 + 512 ≤ 512; omega
theorem in_wIn (j : Fin 8) : ∀ a, (![0, (j : ℕ) * 512] : Fin 2 → ℕ) a + S2048x512.size a ≤ S2048x4096.size a := by
  intro a; fin_cases a
  · show 0 + 2048 ≤ 2048; omega
  · show (j : ℕ) * 512 + 512 ≤ 4096; omega
theorem in_wOut (j : Fin 4) : ∀ a, (![0, (j : ℕ) * 512] : Fin 2 → ℕ) a + S4096x512.size a ≤ S4096x2048.size a := by
  intro a; fin_cases a
  · show 0 + 4096 ≤ 4096; omega
  · show (j : ℕ) * 512 + 512 ≤ 2048; omega
theorem in_acc (j : Fin 8) : ∀ a, (![(j : ℕ), 0, 0] : Fin 3 → ℕ) a + S1x64x512.size a ≤ S8x64x512.size a := by
  intro a; fin_cases a
  · show (j : ℕ) + 1 ≤ 8; omega
  · show 0 + 64 ≤ 64; omega
  · show 0 + 512 ≤ 512; omega
theorem in_rcv (i : Fin 6) (j : Fin 8) : ∀ a, (![(i : ℕ), (j : ℕ), 0, 0] : Fin 4 → ℕ) a + S1x1x64x512.size a ≤ S6x8x64x512.size a := by
  intro a; fin_cases a
  · show (i : ℕ) + 1 ≤ 6; omega
  · show (j : ℕ) + 1 ≤ 8; omega
  · show 0 + 64 ≤ 64; omega
  · show 0 + 512 ≤ 512; omega
theorem in_h (j : Fin 8) : ∀ a, (![0, (j : ℕ) * 512] : Fin 2 → ℕ) a + S64x512.size a ≤ S64x4096.size a := by
  intro a; fin_cases a
  · show 0 + 64 ≤ 64; omega
  · show (j : ℕ) * 512 + 512 ≤ 4096; omega
theorem in_dst (j : Fin 4) : ∀ a, (![0, (j : ℕ) * 512] : Fin 2 → ℕ) a + S64x512.size a ≤ S64x2048.size a := by
  intro a; fin_cases a
  · show 0 + 64 ≤ 64; omega
  · show (j : ℕ) * 512 + 512 ≤ 2048; omega
theorem in_act : ∀ a, (![0, 0] : Fin 2 → ℕ) a + S64x2048.size a ≤ S64x2048.size a := by
  intro a; fin_cases a
  · show 0 + 64 ≤ 64; omega
  · show 0 + 2048 ≤ 2048; omega
theorem in_hW : ∀ a, (![0, 0] : Fin 2 → ℕ) a + S64x4096.size a ≤ S64x4096.size a := by
  intro a; fin_cases a
  · show 0 + 64 ≤ 64; omega
  · show 0 + 4096 ≤ 4096; omega

/-! ## The semaphores and the pieces of the buffers -/

/-- The semaphore of weight slot `s`. -/
abbrev wS (s : Fin 3) : DmaSems sig S_ :=
  (cc0_scratch1.slice (Rect.unit (s := S3) ![(s : ℕ)] S1.size (in_wsem s))).squeeze S_ squeezes_S1_S_
/-- The semaphores of exchange `i`'s block `j`: the sender's, the receiver's. -/
abbrev sS (i : Fin 6) (j : Fin 8) : DmaSems sig S_ :=
  (cc0_scratch4.slice (Rect.unit (s := S6x8) ![(i : ℕ), (j : ℕ)] S1x1.size (in_sem i j))).squeeze S_ squeezes_S1x1_S_
abbrev rS (i : Fin 6) (j : Fin 8) : DmaSems sig S_ :=
  (cc0_scratch5.slice (Rect.unit (s := S6x8) ![(i : ℕ), (j : ℕ)] S1x1.size (in_sem i j))).squeeze S_ squeezes_S1x1_S_

/-- Weight slot `s`, at an upward tile's shape and at a downward tile's. -/
abbrev slotE (s : Fin 3) : Memref sig .tc .vmem S2048x512 .f32 :=
  (wM.slice (Rect.unit (s := S3x4096x512) ![(s : ℕ), 0, 0] S1x2048x512.size (in_slotE s)) (fun _ => rfl)).squeeze S2048x512 squeezes_S1x2048x512_S2048x512
abbrev slotO (s : Fin 3) : Memref sig .tc .vmem S4096x512 .f32 :=
  (wM.slice (Rect.unit (s := S3x4096x512) ![(s : ℕ), 0, 0] S1x4096x512.size (in_slotO s)) (fun _ => rfl)).squeeze S4096x512 squeezes_S1x4096x512_S4096x512
/-- Columns `512 j` to `512 j + 511` of the weights. -/
abbrev colE (l : Fin 3) (j : Fin 8) : Memref sig .tc .hbm S2048x512 .f32 :=
  (wIn l).slice (Rect.unit (s := S2048x4096) ![0, (j : ℕ) * 512] S2048x512.size (in_wIn j)) (fun _ => rfl)
abbrev colO (l : Fin 3) (j : Fin 4) : Memref sig .tc .hbm S4096x512 .f32 :=
  (wOut l).slice (Rect.unit (s := S4096x2048) ![0, (j : ℕ) * 512] S4096x512.size (in_wOut j)) (fun _ => rfl)
/-- Block `j` of the partial products, and where exchange `i`'s block `j` arrives. -/
abbrev accB (j : Fin 8) : Memref sig .tc .vmem S64x512 .f32 :=
  (aM.slice (Rect.unit (s := S8x64x512) ![(j : ℕ), 0, 0] S1x64x512.size (in_acc j)) (fun _ => rfl)).squeeze S64x512 squeezes_S1x64x512_S64x512
abbrev rcvB (i : Fin 6) (j : Fin 8) : Memref sig .tc .vmem S64x512 .f32 :=
  (rM.slice (Rect.unit (s := S6x8x64x512) ![(i : ℕ), (j : ℕ), 0, 0] S1x1x64x512.size (in_rcv i j)) (fun _ => rfl)).squeeze S64x512 squeezes_S1x1x64x512_S64x512

/-! ## The values computed -/

/-- A tile of the upward product of layer `l`. -/
def payE (l : Fin 3) (a : Vec F S64x2048 .f32) (w : Vec F S1x2048x512 .f32) : FVec F S1x64x512 .f32 :=
  match l with | 0 => k0_pay2 a w | 1 => k0_pay27 a w | 2 => k0_pay27 a w
/-- A tile of a downward product. -/
abbrev payO (a : Vec F S64x4096 .f32) (w : Vec F S1x4096x512 .f32) : FVec F S1x64x512 .f32 := k0_pay19 a w
/-- A block of the hidden activations from the two partial products. -/
abbrev sumE (a : Vec F S1x64x512 .f32) (b : Vec F S1x1x64x512 .f32) : FVec F S64x512 .f32 := k0_pay11 a b
/-- A block of layer `l`'s result from the two partial products. -/
def sumO (l : Fin 3) (a : Vec F S1x64x512 .f32) (b : Vec F S1x1x64x512 .f32) : FVec F S64x512 .f32 :=
  match l with | 0 => k0_pay23 a b | 1 => k0_pay23 a b | 2 => k0_pay42 a b

/-! ## The pieces of the program -/

/-- A piece of the body. -/
abbrev TP (F : FTy → Type) [FloatOps F] : Type → Type 1 := Prog (TpuEff nD τ sig (Elt F) Λ₀ .tc)

/-- Start bringing weights into slot `s`. -/
def startE (l : Fin 3) (j : Fin 8) (s : Fin 3) : TP F PUnit :=
  Prog.lift (.enqueueDma (colE l j) (.here (slotE s)) (.dma (wS s).sem) (View.wordExact_bits rfl) ((View.wordExact_bits rfl).reshape _ _) ⟨Or.inl rfl, trivial⟩)
def startO (l : Fin 3) (j : Fin 4) (s : Fin 3) : TP F PUnit :=
  Prog.lift (.enqueueDma (colO l j) (.here (slotO s)) (.dma (wS s).sem) (View.wordExact_bits rfl) ((View.wordExact_bits rfl).reshape _ _) ⟨Or.inl rfl, trivial⟩)
/-- Wait for them. -/
def awaitE (l : Fin 3) (j : Fin 8) (s : Fin 3) : TP F PUnit :=
  Prog.lift (.waitDma2 (wS s).sem (colE l j) (slotE s) (View.wordExact_bits rfl) ((View.wordExact_bits rfl).reshape _ _))
def awaitO (l : Fin 3) (j : Fin 4) (s : Fin 3) : TP F PUnit :=
  Prog.lift (.waitDma2 (wS s).sem (colO l j) (slotO s) (View.wordExact_bits rfl) ((View.wordExact_bits rfl).reshape _ _))

/-- Compute block `j` of an upward product. -/
def compE (l : Fin 3) (j : Fin 8) (s : Fin 3) : TP F PUnit := do
  let a : Vec F S64x2048 .f32 ← Prog.lift (.load (act l) (Rect.unit (s := S64x2048) ![0, 0] S64x2048.size in_act).toLoadRect (View.loadsAt_vmem h_S64x2048))
  let w : Vec F S1x2048x512 .f32 ← Prog.lift (.load wM (Rect.unit (s := S3x4096x512) ![(s : ℕ), 0, 0] S1x2048x512.size (in_slotE s)).toLoadRect (View.loadsAt_vmem h_S1x2048x512))
  let _ : Vec F S1x64x512 .f32 ← Prog.lift (.load aM (Rect.unit (s := S8x64x512) ![(j : ℕ), 0, 0] S1x64x512.size (in_acc j)).toLoadRect (View.loadsAt_vmem h_S1x64x512))
  Prog.lift (.store aM (Rect.unit (s := S8x64x512) ![(j : ℕ), 0, 0] S1x64x512.size (in_acc j)) (payE l a w) Finset.univ (View.stores_vmem_bits_univ h_S1x64x512 rfl) (.inl rfl))
/-- Compute block `j` of a downward product. -/
def compO (j : Fin 8) (s : Fin 3) : TP F PUnit := do
  let a : Vec F S64x4096 .f32 ← Prog.lift (.load hM (Rect.unit (s := S64x4096) ![0, 0] S64x4096.size in_hW).toLoadRect (View.loadsAt_vmem h_S64x4096))
  let w : Vec F S1x4096x512 .f32 ← Prog.lift (.load wM (Rect.unit (s := S3x4096x512) ![(s : ℕ), 0, 0] S1x4096x512.size (in_slotO s)).toLoadRect (View.loadsAt_vmem h_S1x4096x512))
  let _ : Vec F S1x64x512 .f32 ← Prog.lift (.load aM (Rect.unit (s := S8x64x512) ![(j : ℕ), 0, 0] S1x64x512.size (in_acc j)).toLoadRect (View.loadsAt_vmem h_S1x64x512))
  Prog.lift (.store aM (Rect.unit (s := S8x64x512) ![(j : ℕ), 0, 0] S1x64x512.size (in_acc j)) (payO a w) Finset.univ (View.stores_vmem_bits_univ h_S1x64x512 rfl) (.inl rfl))

/-- Send block `j` to the peer `p` in exchange `i`. -/
def give (i : Fin 6) (p : Dev nD) (j : Fin 8) : TP F PUnit :=
  Prog.lift (.enqueueDma (accB j) (.remote (Dev.tc p) (rcvB i j) (.dma (sS i j).sem)) (.dma (rS i j).sem) ((View.wordExact_bits rfl).reshape _ _) ((View.wordExact_bits rfl).reshape _ _) ⟨⟨rfl, Or.inl rfl⟩, trivial⟩)
/-- Wait until block `j` has left, and until the peer's has come. -/
def taken (i : Fin 6) (j : Fin 8) : TP F PUnit :=
  Prog.lift (.waitDma2 (sS i j).sem (rcvB i j) (accB j) ((View.wordExact_bits rfl).reshape _ _) ((View.wordExact_bits rfl).reshape _ _))
def come (i : Fin 6) (j : Fin 8) : TP F PUnit :=
  Prog.lift (.waitDma2 (rS i j).sem (accB j) (rcvB i j) ((View.wordExact_bits rfl).reshape _ _) ((View.wordExact_bits rfl).reshape _ _))

/-- Add the two partial products of block `j` into the hidden activations. -/
def joinE (i : Fin 6) (j : Fin 8) : TP F PUnit := do
  let a : Vec F S1x64x512 .f32 ← Prog.lift (.load aM (Rect.unit (s := S8x64x512) ![(j : ℕ), 0, 0] S1x64x512.size (in_acc j)).toLoadRect (View.loadsAt_vmem h_S1x64x512))
  let b : Vec F S1x1x64x512 .f32 ← Prog.lift (.load rM (Rect.unit (s := S6x8x64x512) ![(i : ℕ), (j : ℕ), 0, 0] S1x1x64x512.size (in_rcv i j)).toLoadRect (View.loadsAt_vmem h_S1x1x64x512))
  let _ : Vec F S64x512 .f32 ← Prog.lift (.load hM (Rect.unit (s := S64x4096) ![0, (j : ℕ) * 512] S64x512.size (in_h j)).toLoadRect (View.loadsAt_vmem h_S64x512))
  Prog.lift (.store hM (Rect.unit (s := S64x4096) ![0, (j : ℕ) * 512] S64x512.size (in_h j)) (sumE a b) Finset.univ (View.stores_vmem_bits_univ h_S64x512 rfl) (.inl rfl))
/-- Add the two partial products of block `j` into layer `l`'s result. -/
def joinO (l : Fin 3) (i : Fin 6) (k : Fin 4) (j : Fin 8) : TP F PUnit := do
  let a : Vec F S1x64x512 .f32 ← Prog.lift (.load aM (Rect.unit (s := S8x64x512) ![(j : ℕ), 0, 0] S1x64x512.size (in_acc j)).toLoadRect (View.loadsAt_vmem h_S1x64x512))
  let b : Vec F S1x1x64x512 .f32 ← Prog.lift (.load rM (Rect.unit (s := S6x8x64x512) ![(i : ℕ), (j : ℕ), 0, 0] S1x1x64x512.size (in_rcv i j)).toLoadRect (View.loadsAt_vmem h_S1x1x64x512))
  let _ : Vec F S64x512 .f32 ← Prog.lift (.load (dst l) (Rect.unit (s := S64x2048) ![0, (k : ℕ) * 512] S64x512.size (in_dst k)).toLoadRect (View.loadsAt_vmem h_S64x512))
  Prog.lift (.store (dst l) (Rect.unit (s := S64x2048) ![0, (k : ℕ) * 512] S64x512.size (in_dst k)) (sumO l a b) Finset.univ (View.stores_vmem_bits_univ h_S64x512 rfl) (.inl rfl))

/-! ## Tiles, halves, layers -/

/-- The exchange after layer `l`'s upward product, and the one after its downward product. -/
abbrev iE : Fin 3 → Fin 6 | 0 => 0 | 1 => 2 | 2 => 4
abbrev iO : Fin 3 → Fin 6 | 0 => 1 | 1 => 3 | 2 => 5

abbrev slE : Fin 8 → Fin 3 | 0 => 0 | 1 => 1 | 2 => 2 | 3 => 0 | 4 => 1 | 5 => 2 | 6 => 0 | 7 => 1
abbrev slO : Fin 4 → Fin 3 | 0 => 2 | 1 => 0 | 2 => 1 | 3 => 2
abbrev up : Fin 4 → Fin 8 | 0 => 0 | 1 => 1 | 2 => 2 | 3 => 3

/-- What tile `j` of the upward product starts: the tile two on. -/
def nextE (l : Fin 3) : Fin 8 → TP F PUnit
  | 0 => startE l 2 2 | 1 => startE l 3 0 | 2 => startE l 4 1 | 3 => startE l 5 2 | 4 => startE l 6 0 | 5 => startE l 7 1
  | 6 => startO l 0 2 | 7 => startO l 1 0
/-- What tile `j` of the downward product starts, the last two tiles of the last layer starting nothing. -/
def nextO : Fin 3 → Fin 4 → List (TP F PUnit)
  | l, 0 => [startO l 2 1] | l, 1 => [startO l 3 2]
  | 0, 2 => [startE 1 0 0] | 0, 3 => [startE 1 1 1]
  | 1, 2 => [startE 2 0 0] | 1, 3 => [startE 2 1 1]
  | 2, 2 => [] | 2, 3 => []

def tileE (d : Dev nD) (l : Fin 3) (j : Fin 8) : List (TP F PUnit) :=
  [nextE l j, awaitE l j (slE j), compE l j (slE j), give (iE l) (yd d) j]
def tileO (d : Dev nD) (l : Fin 3) (j : Fin 4) : List (TP F PUnit) :=
  nextO l j ++ [awaitO l j (slO j), compO (up j) (slO j), give (iO l) (xd d) (up j)]
def finE (l : Fin 3) (j : Fin 8) : List (TP F PUnit) := [taken (iE l) j, come (iE l) j, joinE (iE l) j]
def finO (l : Fin 3) (j : Fin 4) : List (TP F PUnit) := [taken (iO l) (up j), come (iO l) (up j), joinO l (iO l) j (up j)]

/-- One layer. -/
def layer (d : Dev nD) (l : Fin 3) : List (TP F PUnit) :=
  [(0 : Fin 8), 1, 2, 3, 4, 5, 6, 7].flatMap (tileE d l) ++ [(0 : Fin 8), 1, 2, 3, 4, 5, 6, 7].flatMap (finE l)
    ++ [(0 : Fin 4), 1, 2, 3].flatMap (tileO d l) ++ [(0 : Fin 4), 1, 2, 3].flatMap (finO l)

/-- The barrier semaphore. -/
abbrev barS : Sems sig S_ := SemArray.scalar (sig.barrier 0 rfl)

/-- The meeting of the devices before any of them sends. -/
def meet (d : Dev nD) : List (TP F PUnit) :=
  [semSignalWord (yd d) barS.sem 1#32, semSignalWord (xd d) barS.sem 1#32, semWaitWord barS.sem 2#32]

/-- The whole body. -/
def body : TP F PUnit := do
  let d : Dev nD ← Prog.lift .deviceId
  chain (meet d ++ [startE 0 0 0, startE 0 1 1] ++ [(0 : Fin 3), 1, 2].flatMap (layer d))

/-- The printed body is this one. -/
theorem body_eq : cc0_body (F := F) xM (Memref.isWhole_whole _) (Memref.whole main_arg1) (Memref.isWhole_whole _)
    (Memref.whole main_arg2) (Memref.isWhole_whole _) (Memref.whole main_arg3) (Memref.isWhole_whole _)
    (Memref.whole main_arg4) (Memref.isWhole_whole _) (Memref.whole main_arg5) (Memref.isWhole_whole _)
    (Memref.whole main_arg6) (Memref.isWhole_whole _) oM (Memref.isWhole_whole _) wM (Memref.isWhole_whole _) cc0_scratch1
    aM (Memref.isWhole_whole _) rM (Memref.isWhole_whole _) cc0_scratch4 cc0_scratch5 hM (Memref.isWhole_whole _)
    x2M (Memref.isWhole_whole _) = body := by
  chain_rfl

end Cert.KernelIdeal.Mlp

end
-- ==== Proof.Ideal.Values.lean ====
/- What the kernel computes.

   `Inp` are the arguments on every device. `P` is a device's partial product of a tile, `H` the hidden
   activations of a layer, `XL` what a layer reads; `XL K 3` is the kernel's result. -/
module

public import proofs.«01_k».proof.Proof.Ideal.Prog

@[expose] public section

noncomputable section

namespace Cert.KernelIdeal.Mlp

open Cert.KernelIdeal Cert.KernelIdeal.Gen
open Idealize.ShloMosaic Idealize.ShloMosaic.TcCoe

variable {F : FTy → Type} [FloatOps F]

/-! ## The peers -/

theorem yd_yd (d : Dev nD) : yd (yd d) = d := by revert d; decide
theorem xd_xd (d : Dev nD) : xd (xd d) = d := by revert d; decide

/-! ## Tiles -/

/-- A tile: of layer `l`'s upward product, or of its downward product. -/
abbrev Tile : Type := (Fin 3 × Fin 8) ⊕ (Fin 3 × Fin 4)

instance decTile : DecidableEq Tile := inferInstance
instance decBoolTile : DecidableEq (Bool × Tile) := inferInstance

/-- The exchange and the block a tile is sent in. -/
def ix : Tile → Fin 6 × Fin 8
  | .inl p => (iE p.1, p.2)
  | .inr p => (iO p.1, up p.2)

/-- The device a tile is exchanged with. -/
def pr : Tile → Dev nD → Dev nD
  | .inl _ => yd
  | .inr _ => xd

theorem pr_pr (t : Tile) (d : Dev nD) : pr t (pr t d) = d := by
  cases t
  · exact yd_yd d
  · exact xd_xd d

/-- The tile's number in the order of the program. -/
def num : Tile → ℕ
  | .inl p => 12 * (p.1 : ℕ) + p.2
  | .inr p => 12 * (p.1 : ℕ) + 8 + p.2

/-! ## Columns -/

abbrev rWI (j : Fin 8) : Rect S2048x4096 := Rect.unit (s := S2048x4096) ![0, (j : ℕ) * 512] S2048x512.size (in_wIn j)
abbrev rWO (j : Fin 4) : Rect S4096x2048 := Rect.unit (s := S4096x2048) ![0, (j : ℕ) * 512] S4096x512.size (in_wOut j)
abbrev rH (j : Fin 8) : Rect S64x4096 := Rect.unit (s := S64x4096) ![0, (j : ℕ) * 512] S64x512.size (in_h j)
abbrev rD (j : Fin 4) : Rect S64x2048 := Rect.unit (s := S64x2048) ![0, (j : ℕ) * 512] S64x512.size (in_dst j)

/-- Block `j` of the columns of the weights. -/
def colsI (w : Vec F S2048x4096 .f32) (j : Fin 8) : Vec F S2048x512 .f32 := fun i => w ((rWI j).emb i)
def colsO (w : Vec F S4096x2048 .f32) (j : Fin 4) : Vec F S4096x512 .f32 := fun i => w ((rWO j).emb i)

/-- Which block of 512 columns an index lies in, and where in it. -/
def blkH (i : S64x4096.Idx) : Fin 8 := ⟨(i 1).val / 512, by have := (i 1).isLt; change (i 1).val < 4096 at this; omega⟩
def offH (i : S64x4096.Idx) : S64x512.Idx :=
  Fin.cons (n := 1) (α := fun a => Fin (S64x512.size a)) (i 0) (Fin.cons (n := 0) (α := fun a => Fin (S64x512.size a.succ)) ⟨(i 1).val % 512, Nat.mod_lt _ (by decide)⟩ finZeroElim)
def blkD (i : S64x2048.Idx) : Fin 4 := ⟨(i 1).val / 512, by have := (i 1).isLt; change (i 1).val < 2048 at this; omega⟩
def offD (i : S64x2048.Idx) : S64x512.Idx :=
  Fin.cons (n := 1) (α := fun a => Fin (S64x512.size a)) (i 0) (Fin.cons (n := 0) (α := fun a => Fin (S64x512.size a.succ)) ⟨(i 1).val % 512, Nat.mod_lt _ (by decide)⟩ finZeroElim)

theorem emb_offH (i : S64x4096.Idx) : (rH (blkH i)).emb (offH i) = i := by
  funext a; apply Fin.ext; fin_cases a
  · show 0 + 1 * (i 0).val = (i 0).val; omega
  · show (i 1).val / 512 * 512 + 1 * ((i 1).val % 512) = (i 1).val; omega
theorem emb_offD (i : S64x2048.Idx) : (rD (blkD i)).emb (offD i) = i := by
  funext a; apply Fin.ext; fin_cases a
  · show 0 + 1 * (i 0).val = (i 0).val; omega
  · show (i 1).val / 512 * 512 + 1 * ((i 1).val % 512) = (i 1).val; omega

/-- The blocks of columns put side by side. -/
def catH (S : Fin 8 → Vec F S64x512 .f32) : Vec F S64x4096 .f32 := fun i => S (blkH i) (offH i)
def catD (S : Fin 4 → Vec F S64x512 .f32) : Vec F S64x2048 .f32 := fun i => S (blkD i) (offD i)

omit [FloatOps F] in
theorem eq_catH (S : Fin 8 → Vec F S64x512 .f32) (Y : Vec F S64x4096 .f32) (h : ∀ j y, Y ((rH j).emb y) = S j y) : Y = catH S :=
  funext fun i => by conv_lhs => rw [← emb_offH i]
                     exact h _ _
omit [FloatOps F] in
theorem eq_catD (S : Fin 4 → Vec F S64x512 .f32) (Y : Vec F S64x2048 .f32) (h : ∀ j y, Y ((rD j).emb y) = S j y) : Y = catD S :=
  funext fun i => by conv_lhs => rw [← emb_offD i]
                     exact h _ _

theorem emb_rH_ne {i j : Fin 8} (h : i ≠ j) (y : S64x512.Idx) : (rH i).emb y ∉ (rH j).set := by
  intro hm
  obtain ⟨z, hz⟩ := (rH j).exists_idx_of_mem hm
  have h1 := congrArg (fun x : S64x4096.Idx => (x 1).val) hz
  change (j : ℕ) * 512 + 1 * (z 1).val = (i : ℕ) * 512 + 1 * (y 1).val at h1
  have hz1 : (z 1).val < 512 := (z 1).isLt
  have hy1 : (y 1).val < 512 := (y 1).isLt
  exact h (Fin.ext (by omega))
theorem emb_rD_ne {i j : Fin 4} (h : i ≠ j) (y : S64x512.Idx) : (rD i).emb y ∉ (rD j).set := by
  intro hm
  obtain ⟨z, hz⟩ := (rD j).exists_idx_of_mem hm
  have h1 := congrArg (fun x : S64x2048.Idx => (x 1).val) hz
  change (j : ℕ) * 512 + 1 * (z 1).val = (i : ℕ) * 512 + 1 * (y 1).val at h1
  have hz1 : (z 1).val < 512 := (z 1).isLt
  have hy1 : (y 1).val < 512 := (y 1).isLt
  exact h (Fin.ext (by omega))

/-! ## Products and sums -/

def dotI (a : Vec F S64x2048 .f32) (w : Vec F S2048x512 .f32) : Vec F S64x512 .f32 :=
  matmul (F := F) (φ₁ := .f32) (φ₂ := .f32) dot_S64x2048_S2048x512_S64x512_1_0_0_1_n_n none a w (constant S64x512 .f32 0x00000000#32)
def dotO (a : Vec F S64x4096 .f32) (w : Vec F S4096x512 .f32) : Vec F S64x512 .f32 :=
  matmul (F := F) (φ₁ := .f32) (φ₂ := .f32) dot_S64x4096_S4096x512_S64x512_1_0_0_1_n_n none a w (constant S64x512 .f32 0x00000000#32)
def addV (a b : Vec F S64x512 .f32) : Vec F S64x512 .f32 := addf (F := F) (φ := .f32) a b
/-- The sum, and zero where it is negative. -/
def addR (a b : Vec F S64x512 .f32) : Vec F S64x512 .f32 :=
  maximumf (F := F) (φ := .f32) (addf (F := F) (φ := .f32) a b) (broadcast S64x512 (Scalar.ofBits .f32 0x00000000#32))

omit [FloatOps F] in
theorem cast_cast {α : Type} {s t : Shape} (x : s.Idx → α) (h : s.ShapeCasts t) (h' : t.ShapeCasts s) :
    shapeCast s (shapeCast t x h) h' = x := by
  funext i
  show x (Shape.reshapeEquiv h (Shape.reshapeEquiv h' i)) = x i
  rw [Shape.reshapeEquiv_reshapeEquiv, Shape.reshapeEquiv_self]

omit [FloatOps F] in
theorem cast_self {α : Type} {s : Shape} (x : s.Idx → α) (h : s.ShapeCasts s) : shapeCast s x h = x := by
  funext i
  show x (Shape.reshapeEquiv h i) = x i
  rw [Shape.reshapeEquiv_self]

theorem payE_eq (l : Fin 3) (a : Vec F S64x2048 .f32) (w : Vec F S2048x512 .f32) (h : S2048x512.ShapeCasts S1x2048x512)
    (h' : S1x64x512.ShapeCasts S64x512) : shapeCast S64x512 (payE l a (shapeCast S1x2048x512 w h)) h' = dotI a w := by
  fin_cases l
  · show shapeCast S64x512 (k0_pay2 a (shapeCast S1x2048x512 w h)) h' = _
    unfold k0_pay2 dotI; simp only [cast_cast, cast_self]
  · show shapeCast S64x512 (k0_pay27 a (shapeCast S1x2048x512 w h)) h' = _
    unfold k0_pay27 dotI; simp only [cast_cast]
  · show shapeCast S64x512 (k0_pay27 a (shapeCast S1x2048x512 w h)) h' = _
    unfold k0_pay27 dotI; simp only [cast_cast]
theorem payO_eq (a : Vec F S64x4096 .f32) (w : Vec F S4096x512 .f32) (h : S4096x512.ShapeCasts S1x4096x512)
    (h' : S1x64x512.ShapeCasts S64x512) : shapeCast S64x512 (payO a (shapeCast S1x4096x512 w h)) h' = dotO a w := by
  unfold payO k0_pay19 dotO; simp only [cast_cast]
theorem sumE_eq (a b : Vec F S64x512 .f32) (h : S64x512.ShapeCasts S1x64x512) (h' : S64x512.ShapeCasts S1x1x64x512) :
    sumE (shapeCast S1x64x512 a h) (shapeCast S1x1x64x512 b h') = addR a b := by
  unfold sumE k0_pay11 addR; simp only [cast_cast, cast_self]
theorem sumO_eq (l : Fin 3) (a b : Vec F S64x512 .f32) (h : S64x512.ShapeCasts S1x64x512) (h' : S64x512.ShapeCasts S1x1x64x512) :
    sumO l (shapeCast S1x64x512 a h) (shapeCast S1x1x64x512 b h') = addV a b := by
  fin_cases l
  · show k0_pay23 _ _ = _
    unfold k0_pay23 addV; simp only [cast_cast, cast_self]
  · show k0_pay23 _ _ = _
    unfold k0_pay23 addV; simp only [cast_cast, cast_self]
  · show k0_pay42 _ _ = _
    unfold k0_pay42 addV; simp only [cast_cast]

/-! ## The layers -/

/-- The arguments, device by device. -/
structure Inp (F : FTy → Type) [FloatOps F] where
  x : Dev nD → Vec F S64x2048 .f32
  wi : Fin 3 → Dev nD → Vec F S2048x4096 .f32
  wo : Fin 3 → Dev nD → Vec F S4096x2048 .f32

variable (K : Inp F)

/-- A device's partial product of block `j` upward, from what the devices read. -/
def upP (X : Dev nD → Vec F S64x2048 .f32) (l : Fin 3) (j : Fin 8) (c : Dev nD) : Vec F S64x512 .f32 := dotI (X c) (colsI (K.wi l c) j)
/-- The hidden activations. -/
def upH (X : Dev nD → Vec F S64x2048 .f32) (l : Fin 3) (c : Dev nD) : Vec F S64x4096 .f32 :=
  catH fun j => addR (upP K X l j c) (upP K X l j (yd c))
/-- A device's partial product of block `j` downward, from the hidden activations. -/
def dnP (Y : Dev nD → Vec F S64x4096 .f32) (l : Fin 3) (j : Fin 4) (c : Dev nD) : Vec F S64x512 .f32 := dotO (Y c) (colsO (K.wo l c) j)
/-- The layer's result. -/
def dnX (Y : Dev nD → Vec F S64x4096 .f32) (l : Fin 3) (c : Dev nD) : Vec F S64x2048 .f32 :=
  catD fun j => addV (dnP K Y l j c) (dnP K Y l j (xd c))

/-- What layer `n` reads. -/
def XL : ℕ → Dev nD → Vec F S64x2048 .f32
  | 0 => K.x
  | n + 1 => dnX K (upH K (XL n) (Fin.ofNat 3 n)) (Fin.ofNat 3 n)

/-- The hidden activations of layer `l`. -/
def HL (l : Fin 3) : Dev nD → Vec F S64x4096 .f32 := upH K (XL K l) l

theorem XL_succ (l : Fin 3) : XL K ((l : ℕ) + 1) = dnX K (HL K l) l := by
  show dnX K (upH K (XL K l) (Fin.ofNat 3 l)) (Fin.ofNat 3 l) = _
  rw [show Fin.ofNat 3 (l : ℕ) = l from Fin.ext (Nat.mod_eq_of_lt l.isLt)]
  rfl

/-- A device's partial product of a tile. -/
def P : Tile → Dev nD → Vec F S64x512 .f32
  | .inl p => upP K (XL K p.1) p.1 p.2
  | .inr p => dnP K (HL K p.1) p.1 p.2

end Cert.KernelIdeal.Mlp

end
-- ==== Proof.Ideal.Sums.lean ====
/- The layers over the extended reals: each element as sums of products.

   An upward element is the rectified sum of the device's product and of the one of the device beside it along
   the second axis; a downward element is the sum of the device's product and of the one beside it along the
   first. A sum over a whole axis is the sum over its two halves, in either order. -/
module

public import proofs.«01_k».proof.Proof.Ideal.Values
public import Idealize.ShloMosaic.Lib.MatmulPlain

@[expose] public section

noncomputable section

namespace Cert.KernelIdeal.Mlp

open Cert.KernelIdeal Cert.KernelIdeal.Gen
open Idealize.ShloMosaic Idealize.ShloMosaic.TcCoe
open Idealize.ShloMosaic.ValueIdx
open scoped BigOperators

/-! ## Halves of an axis -/

/-- Position `i` of half `b` of an axis of `n + n` positions. -/
def half {n : ℕ} (b : Fin 2) (i : Fin n) : Fin (n + n) :=
  ⟨(b : ℕ) * n + i, by
    have h1 := b.isLt
    have h2 := i.isLt
    have h3 : (b : ℕ) * n ≤ 1 * n := Nat.mul_le_mul_right n (by omega)
    omega⟩

/-- The other half. -/
def other (b : Fin 2) : Fin 2 := 1 - b

/-- A sum over the axis is the sum over half `b` and the sum over the other. -/
theorem sum_halves {n : ℕ} (f : Fin (n + n) → EReal) (b : Fin 2) :
    ∑ k, f k = ∑ i : Fin n, f (half b i) + ∑ i : Fin n, f (half (other b) i) := by
  have h0 : ∀ i : Fin n, half 0 i = Fin.castAdd n i := fun i => Fin.ext (by show 0 * n + (i : ℕ) = i; omega)
  have h1 : ∀ i : Fin n, half 1 i = Fin.natAdd n i := fun i => Fin.ext (by show 1 * n + (i : ℕ) = n + i; omega)
  have key : ∑ k, f k = ∑ i : Fin n, f (half 0 i) + ∑ i : Fin n, f (half 1 i) := by
    rw [Fin.sum_univ_add]; simp only [h0, h1]
  fin_cases b
  · exact key
  · exact key.trans (add_comm _ _)

/-! ## A block's product -/

theorem zero_splat {s : Shape} (j : s.Idx) : (constant s .f32 0x00000000#32 : FVec Ideal s .f32) j = 0 := Ideal.ofBits_zero_f32

theorem dotI_at (a : Vec Ideal S64x2048 .f32) (w : Vec Ideal S2048x512 .f32) (r : Fin 64) (k : Fin 512) :
    dotI (F := Ideal) a w (ix2 r k) = ∑ i : Fin 2048, (a (ix2 r i) : EReal) * w (ix2 i k) :=
  (Ideal.matmul_plain_apply (M := 64) (K := 2048) (N := 512) (φ₁ := .f32) (φ₂ := .f32) none a w _ r k).trans
    (by rw [zero_splat, zero_add])

theorem dotO_at (a : Vec Ideal S64x4096 .f32) (w : Vec Ideal S4096x512 .f32) (r : Fin 64) (k : Fin 512) :
    dotO (F := Ideal) a w (ix2 r k) = ∑ i : Fin 4096, (a (ix2 r i) : EReal) * w (ix2 i k) :=
  (Ideal.matmul_plain_apply (M := 64) (K := 4096) (N := 512) (φ₁ := .f32) (φ₂ := .f32) none a w _ r k).trans
    (by rw [zero_splat, zero_add])

/-! ## Where a block's column lies -/

theorem offH_at (r : Fin 64) (k : Fin 4096) : offH (ix2 r k) = ix2 r (⟨(k : ℕ) % 512, Nat.mod_lt _ (by decide)⟩ : Fin 512) := by
  funext a; fin_cases a <;> rfl
theorem offD_at (r : Fin 64) (k : Fin 2048) : offD (ix2 r k) = ix2 r (⟨(k : ℕ) % 512, Nat.mod_lt _ (by decide)⟩ : Fin 512) := by
  funext a; fin_cases a <;> rfl

theorem colsI_at {F : FTy → Type} [FloatOps F] (w : Vec F S2048x4096 .f32) (r : Fin 64) (k : Fin 4096) (i : Fin 2048) :
    colsI w (blkH (ix2 r k)) (ix2 i (⟨(k : ℕ) % 512, Nat.mod_lt _ (by decide)⟩ : Fin 512)) = w (ix2 i k) := by
  refine congrArg w (funext fun a => Fin.ext ?_)
  fin_cases a
  · show 0 + 1 * (i : ℕ) = i; omega
  · show (k : ℕ) / 512 * 512 + 1 * ((k : ℕ) % 512) = k; omega

theorem colsO_at {F : FTy → Type} [FloatOps F] (w : Vec F S4096x2048 .f32) (r : Fin 64) (k : Fin 2048) (i : Fin 4096) :
    colsO w (blkD (ix2 r k)) (ix2 i (⟨(k : ℕ) % 512, Nat.mod_lt _ (by decide)⟩ : Fin 512)) = w (ix2 i k) := by
  refine congrArg w (funext fun a => Fin.ext ?_)
  fin_cases a
  · show 0 + 1 * (i : ℕ) = i; omega
  · show (k : ℕ) / 512 * 512 + 1 * ((k : ℕ) % 512) = k; omega

/-! ## A layer's elements -/

variable (K : Inp Ideal)

theorem upH_at (X : Dev nD → Vec Ideal S64x2048 .f32) (l : Fin 3) (c : Dev nD) (r : Fin 64) (k : Fin 4096) :
    upH K X l c (ix2 r k) = max ((∑ i : Fin 2048, (X c (ix2 r i) : EReal) * K.wi l c (ix2 i k))
      + ∑ i : Fin 2048, (X (yd c) (ix2 r i) : EReal) * K.wi l (yd c) (ix2 i k)) 0 := by
  show max (dotI (F := Ideal) (X c) (colsI (K.wi l c) (blkH (ix2 r k))) (offH (ix2 r k))
    + dotI (F := Ideal) (X (yd c)) (colsI (K.wi l (yd c)) (blkH (ix2 r k))) (offH (ix2 r k)) : EReal) (Ideal.ofBits .f32 0x00000000#32) = _
  rw [offH_at, dotI_at, dotI_at, Ideal.ofBits_zero_f32]
  simp only [colsI_at]

theorem dnX_at (Y : Dev nD → Vec Ideal S64x4096 .f32) (l : Fin 3) (c : Dev nD) (r : Fin 64) (k : Fin 2048) :
    dnX K Y l c (ix2 r k) = ((∑ i : Fin 4096, (Y c (ix2 r i) : EReal) * K.wo l c (ix2 i k))
      + ∑ i : Fin 4096, (Y (xd c) (ix2 r i) : EReal) * K.wo l (xd c) (ix2 i k) : EReal) := by
  show (dotO (F := Ideal) (Y c) (colsO (K.wo l c) (blkD (ix2 r k))) (offD (ix2 r k))
    + dotO (F := Ideal) (Y (xd c)) (colsO (K.wo l (xd c)) (blkD (ix2 r k))) (offD (ix2 r k)) : EReal) = _
  rw [offD_at, dotO_at, dotO_at]
  simp only [colsO_at]

end Cert.KernelIdeal.Mlp

end
-- ==== Proof.Ideal.Pieces.lean ====
/- Pieces of buffers, and programs as lists of steps.

   `held c M S q X`: device `c` holds the elements `S` of the buffer under `M` and reads `X` through
   `M`. The loads, the stores and the local copies of the kernel, each said of pieces held so. Then
   `Steps`: what a list of steps makes of what is held before it, and how such facts are put together
   along a list. -/
module

public import proofs.«01_k».proof.Proof.Ideal.Prog
public import Idealize.ShloMosaic.Lib.Pipeline.Launch
public import Idealize.ShloMosaic.Lib.Pipeline.Kit
public import Idealize.ShloMosaic.Lib.Tactic
public import Idealize.ShloMosaic.Lib.Transfers
public import Idealize.ShloMosaic.Lib.Ring
public import Idealize.ShloMosaic.Lib.Memref

@[expose] public section

noncomputable section

namespace Cert.KernelIdeal.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (chain)

variable {F : FTy → Type} [FloatOps F]

/-! ## The resources -/

/-- The exchange's rounds, and with them the pipeline's rounds and the local copies' counters. -/
abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
abbrev EC : UEmb Counters (MT nD τ sig Unit (Elt F) ℕ UU ℕ) := countersEmb

abbrev 𝒱₀ : Variants := Variants.none

/-- What a device must hold for the rest `p` of its program. -/
abbrev wpc (c : Dev nD) (p : TP F PUnit) (Q : PUnit → sProp 𝕄) : sProp 𝕄 :=
  wp frame (wpE (defs₀ (F := F)) 𝒱₀ (c : Thread nD τ) none) Set.univ p Q

/-! ## Pieces of buffers -/

def held (c : Dev nD) {sp : Space} {s : Shape} {e : EltTy} (M : Memref sig .tc sp s e)
    (S : Finset (Idx (M.view.loc (c : Thread nD τ)))) (q : PosShare TreeShare) (X : s.Idx → Elt F e) : sProp 𝕄 :=
  iprop(∃ f, ⌜M.view.read (Elt F) f = X⌝ ∗ (M.view.loc (c : Thread nD τ) ↦[S]{q} f))

/-- Exactly the piece's own elements. -/
abbrev has (c : Dev nD) {sp : Space} {s : Shape} {e : EltTy} (M : Memref sig .tc sp s e)
    (q : PosShare TreeShare) (X : s.Idx → Elt F e) : sProp 𝕄 := held c M M.view.set q X

omit [FloatOps F] in
instance held_storable (c : Dev nD) {sp : Space} {s : Shape} {e : EltTy} (M : Memref sig .tc sp s e)
    (S : Finset (Idx (M.view.loc (c : Thread nD τ)))) (q : PosShare TreeShare) (X : s.Idx → Elt F e) :
    BI.Storable (upEmb : UEmb _ 𝕄) (held c M S q X) := by
  unfold held; infer_instance

omit [FloatOps F] in
theorem held_intro (c : Dev nD) {sp : Space} {s : Shape} {e : EltTy} (M : Memref sig .tc sp s e)
    (S : Finset (Idx (M.view.loc (c : Thread nD τ)))) (q : PosShare TreeShare) (f : Buf (Elt F) (M.view.loc (c : Thread nD τ))) :
    (M.view.loc (c : Thread nD τ) ↦[S]{q} f : sProp 𝕄) ⊢ held c M S q (M.view.read (Elt F) f) := by
  unfold held; iintro H; iexists f; isplitr
  · ipureintro; rfl
  · iexact H

omit [FloatOps F] in
/-- What a squeezed slice reads is the slice's reading with the axes of size one left out. -/
theorem read_sq {sp : Space} {s s' : Shape} {e : EltTy} (m : Memref sig .tc sp s e) (r : Rect s) (hr : ∀ a, r.stride a = 1)
    (hsq : r.shape.Squeezes s') (hc : s'.ShapeCasts r.shape) (f : m.view.ty.Contents (Elt F)) (X : s'.Idx → Elt F e)
    (h : ((m.slice r hr).squeeze s' hsq).view.read (Elt F) f = X) :
    m.view.readAt (Elt F) r.toLoadRect f = shapeCast r.shape X hc := by
  funext x
  subst h
  show m.view.read (Elt F) f (r.emb x) = m.view.read (Elt F) f (r.emb (Shape.reshapeEquiv hsq.numel_eq (Shape.reshapeEquiv hc x)))
  rw [Shape.reshapeEquiv_reshapeEquiv, Shape.reshapeEquiv_self]

omit [FloatOps F] in
theorem read_write_sq {sp : Space} {s s' : Shape} {e : EltTy} (m : Memref sig .tc sp s e) (r : Rect s) (hr : ∀ a, r.stride a = 1)
    (hsq : r.shape.Squeezes s') (hc : r.shape.ShapeCasts s') (f : m.view.ty.Contents (Elt F)) (w : r.shape.Idx → Elt F e) :
    ((m.slice r hr).squeeze s' hsq).view.read (Elt F) ((m.access r).write (Elt F) f w Finset.univ) = shapeCast s' w hc := by
  funext x
  exact congrFun (View.read_write_univ (v := m.access r) f w) (Shape.reshapeEquiv hsq.numel_eq x)

/-- A load of a slice that is held squeezed. -/
theorem wp_load_sq (c : Dev nD) {sp : CoreSpace} {s s' : Shape} {e : EltTy} (m : Memref sig .tc sp s e) (r : Rect s)
    (hr : ∀ a, r.stride a = 1) (hsq : r.shape.Squeezes s') (hc : s'.ShapeCasts r.shape) {hl : m.view.LoadsAt r.toLoadRect}
    (S : Finset (Idx (m.view.loc (c : Thread nD τ)))) (hS : (m.access r).set ⊆ S) (q : PosShare TreeShare) (X : s'.Idx → Elt F e)
    (k : (r.toLoadRect.shape.Idx → Elt F e) → TP F PUnit) (Q : PUnit → sProp 𝕄) :
    held c ((m.slice r hr).squeeze s' hsq) S q X
      ⊢ iprop((held c ((m.slice r hr).squeeze s' hsq) S q X -∗ wpc c (k (shapeCast r.shape X hc)) Q)
          -∗ wpc c (.op (.load m r.toLoadRect hl) k) Q) := by
  unfold held
  iintro ⟨%f, %hf, H⟩ Hk
  iapply (wp_load_rect 𝒱₀ (c : Thread nD τ) none Set.univ (m := m) (r := r) (S := S) (q := q) (f := f) hS) $$ H
  iintro H
  rw [← read_sq m r hr hsq hc f X hf]
  iapply Hk
  iexists f
  isplitr; · ipureintro; exact hf
  iexact H

/-- A store to it. -/
theorem wp_store_sq (c : Dev nD) {sp : CoreSpace} {s s' : Shape} {e : EltTy} (m : Memref sig .tc sp s e) (r : Rect s)
    (hr : ∀ a, r.stride a = 1) (hsq : r.shape.Squeezes s') (hc : r.shape.ShapeCasts s') (w : r.shape.Idx → Elt F e)
    {hx : (m.access r).Stores Finset.univ} {hm : (Finset.univ : Finset r.shape.Idx) = Finset.univ ∨ ∀ a, r.stride a = 1}
    (S : Finset (Idx (m.view.loc (c : Thread nD τ)))) (hS : (m.access r).set ⊆ S) (X : s'.Idx → Elt F e)
    (k : PUnit → TP F PUnit) (Q : PUnit → sProp 𝕄) :
    held c ((m.slice r hr).squeeze s' hsq) S fullShare X
      ⊢ iprop((held c ((m.slice r hr).squeeze s' hsq) S fullShare (shapeCast s' w hc) -∗ wpc c (k ⟨⟩) Q)
          -∗ wpc c (.op (.store m r w Finset.univ hx hm) k) Q) := by
  unfold held
  iintro ⟨%f, %hf, H⟩ Hk
  iapply (wp_store 𝒱₀ (c : Thread nD τ) none Set.univ (m := m) (r := r) (w := w) (Mk := Finset.univ) (S := S) (f := f) hS) $$ H
  iintro H
  iapply Hk
  iexists _
  isplitr; · ipureintro; exact read_write_sq m r hr hsq hc f w
  iexact H

/-- A whole buffer loaded whole. -/
theorem wp_load_all (c : Dev nD) {sp : CoreSpace} {s : Shape} {e : EltTy} (m : Memref sig .tc sp s e) (r : Rect s)
    {hl : m.view.LoadsAt r.toLoadRect} (q : PosShare TreeShare) (X : s.Idx → Elt F e)
    (k : (r.toLoadRect.shape.Idx → Elt F e) → TP F PUnit) (Q : PUnit → sProp 𝕄) :
    has c m q X
      ⊢ iprop((has c m q X -∗ wpc c (k (fun x => X (r.emb x))) Q)
          -∗ wpc c (.op (.load m r.toLoadRect hl) k) Q) := by
  unfold has held
  iintro ⟨%f, %hf, H⟩ Hk
  iapply (wp_load_rect 𝒱₀ (c : Thread nD τ) none Set.univ (m := m) (r := r) (q := q) (f := f) (View.set_slice_subset _ _)) $$ H
  iintro H
  subst hf
  iapply Hk
  iexists f
  isplitr; · ipureintro; rfl
  iexact H

/-- A store to a rectangle of a memref held whole. -/
theorem wp_store_part (c : Dev nD) {sp : CoreSpace} {s : Shape} {e : EltTy} (m : Memref sig .tc sp s e) (r : Rect s)
    (w : r.shape.Idx → Elt F e) {hx : (m.access r).Stores Finset.univ}
    {hm : (Finset.univ : Finset r.shape.Idx) = Finset.univ ∨ ∀ a, r.stride a = 1}
    (X : s.Idx → Elt F e) (k : PUnit → TP F PUnit) (Q : PUnit → sProp 𝕄) :
    has c m fullShare X
      ⊢ iprop((has c m fullShare (r.overlay X w) -∗ wpc c (k ⟨⟩) Q)
          -∗ wpc c (.op (.store m r w Finset.univ hx hm) k) Q) := by
  unfold has held
  iintro ⟨%f, %hf, H⟩ Hk
  iapply (wp_store 𝒱₀ (c : Thread nD τ) none Set.univ (m := m) (r := r) (w := w) (Mk := Finset.univ) (S := m.view.set) (f := f)
    (View.set_slice_subset _ _)) $$ H
  iintro H
  iapply Hk
  iexists ((m.access r).write (Elt F) f w Finset.univ)
  isplitr
  · ipureintro
    subst hf
    funext x
    by_cases hx : x ∈ r.set
    · obtain ⟨y, rfl⟩ := r.exists_idx_of_mem hx
      refine Eq.trans ?_ (Rect.overlay_emb r (m.view.read (Elt F) f) w y).symm
      exact View.read_slice_write_emb r f w (Finset.mem_univ y)
    · rw [Rect.overlay_of_not_mem _ _ _ hx]
      exact View.read_slice_write_of_not_mem r f w _ (by rw [Rect.map_emb_univ]; exact hx)
  iexact H

/-- A local copy started: what comes is the destination holding what the source reads. -/
theorem wp_start (c : Dev nD) {sp sp' : Space} {s : Shape} {e : EltTy} (src : Memref sig .tc sp s e) (dst : Memref sig .tc sp' s e)
    (sm : SemLoc sig) {hsrc : src.view.WordExact} {hdst : dst.view.WordExact}
    {hsem : DmaTarget.Typed (nD := nD) (τ := τ) (p := .tc) sp sm (.here dst)} (S : Finset (Idx (dst.view.loc (c : Thread nD τ)))) (hS : dst.view.set ⊆ S)
    (hN0 : 0 < dst.view.amount sm) (q : PosShare TreeShare) (X : s.Idx → Elt F e) (fd : Buf (Elt F) (dst.view.loc (c : Thread nD τ)))
    (k : PUnit → TP F PUnit) (Q : PUnit → sProp 𝕄) :
    iprop(has c src q X ∗ (dst.view.loc (c : Thread nD τ) ↦[S]{fullShare} fd) ∗ semVal ((c : Thread nD τ), sm) 0)
      ⊢ iprop((Flight EC (c : Thread nD τ) sm () (dst.view.amount sm) (held c dst S fullShare X) -∗ wpc c (k ⟨⟩) Q)
          -∗ wpc c (.op (.enqueueDma src (.here dst) sm hsrc hdst hsem) k) Q) := by
  unfold has held
  iintro ⟨⟨%fs, %hf, Hs⟩, Hd, Hv⟩ Hk
  iapply (wp_dmaLocal EC 𝒱₀ (c : Thread nD τ) none (via := .same) (fs := fs) (fd := fd) () _ rfl hN0 hS) $$ [Hs Hd Hv]
  · isplitl [Hs]; · iexact Hs
    isplitl [Hd] <;> iassumption
  iintro Hfl
  iapply Hk
  iapply (Flight_mono EC (c : Thread nD τ) (D := iprop((dst.view.loc (c : Thread nD τ) ↦[S]{fullShare}
      dst.view.write (Elt F) fd (ReadAs.same.apply (src.view.read (Elt F) fs)) Finset.univ)
        ∗ (src.view.loc (c : Thread nD τ) ↦[src.view.set]{q} fs))) ?_) $$ Hfl
  iintro ⟨Hd, -⟩
  iexists (dst.view.write (Elt F) fd (ReadAs.same.apply (src.view.read (Elt F) fs)) Finset.univ)
  isplitr; swap; · iexact Hd
  ipureintro
  rw [View.read_write_univ]; exact hf

/-! ## Lists of steps -/

/-- Given `R` throughout, the steps `p` take what is held from `A` to `B`. -/
def Steps (c : Dev nD) (R A : sProp 𝕄) (p : List (TP F PUnit)) (B : sProp 𝕄) : Prop :=
  ∀ (rest : List (TP F PUnit)) (Q : PUnit → sProp 𝕄),
    iprop(R ∗ A ∗ (B -∗ wpc c (chain rest) Q)) ⊢ wpc c (chain (p ++ rest)) Q

section

variable {c : Dev nD} {R : sProp (MT nD τ sig Unit (Elt F) ℕ UU ℕ)}

/-- One step, from the rule for it at the head of a program. -/
theorem Steps.one {A B : sProp 𝕄} {p : TP F PUnit}
    (h : ∀ (k : PUnit → TP F PUnit) (Q : PUnit → sProp 𝕄), iprop(R ∗ A ∗ (B -∗ wpc c (k ⟨⟩) Q)) ⊢ wpc c (p >>= k) Q) :
    Steps c R A [p] B := fun rest Q => h (fun _ => chain rest) Q

theorem Steps.nil {A : sProp 𝕄} : Steps c R A [] A := fun rest Q => by
  show iprop(R ∗ A ∗ (A -∗ wpc c (chain rest) Q)) ⊢ wpc c (chain rest) Q
  iintro ⟨-, HA, Hk⟩
  iapply Hk; iexact HA

theorem Steps.append [BI.Persistent R] {A B C : sProp 𝕄} {p q : List (TP F PUnit)} (h₁ : Steps c R A p B) (h₂ : Steps c R B q C) :
    Steps c R A (p ++ q) C := fun rest Q => by
  rw [List.append_assoc]
  iintro ⟨#HR, HA, Hk⟩
  iapply (h₁ (q ++ rest) Q)
  isplitr; · iexact HR
  isplitl [HA]; · iexact HA
  iintro HB
  iapply (h₂ rest Q)
  isplitr; · iexact HR
  isplitl [HB]; · iexact HB
  iexact Hk

theorem Steps.cons [BI.Persistent R] {A B C : sProp 𝕄} {p : TP F PUnit} {q : List (TP F PUnit)} (h₁ : Steps c R A [p] B) (h₂ : Steps c R B q C) :
    Steps c R A (p :: q) C := Steps.append h₁ h₂

/-- What stays aside stays. -/
theorem Steps.frame (G : sProp 𝕄) {A B : sProp 𝕄} {p : List (TP F PUnit)} (h : Steps c R A p B) :
    Steps c R iprop(A ∗ G) p iprop(B ∗ G) := fun rest Q => by
  iintro ⟨HR, ⟨HA, HG⟩, Hk⟩
  iapply (h rest Q)
  isplitl [HR]; · iexact HR
  isplitl [HA]; · iexact HA
  iintro HB
  iapply Hk
  isplitl [HB] <;> iassumption

theorem Steps.conseq {A A' B B' : sProp 𝕄} {p : List (TP F PUnit)} (h : Steps c R A p B) (hA : A' ⊢ A) (hB : B ⊢ B') :
    Steps c R A' p B' := fun rest Q => by
  iintro ⟨HR, HA, Hk⟩
  iapply (h rest Q)
  isplitl [HR]; · iexact HR
  isplitl [HA]; · iapply hA; iexact HA
  iintro HB
  iapply Hk
  iapply hB; iexact HB

/-- The same steps for each entry of a list, what is held of the entries turning from `A` to `B` one by
    one and the rest running through `I`. -/
theorem Steps.each [BI.Persistent R] {T : Type} [DecidableEq T] (f : T → List (TP F PUnit)) (I : ℕ → sProp 𝕄) (A B : T → sProp 𝕄) :
    ∀ (L : List T) (n : ℕ), L.Nodup →
      (∀ (i : ℕ) (h : i < L.length), Steps c R iprop(I (n + i) ∗ A L[i]) (f L[i]) iprop(I (n + i + 1) ∗ B L[i])) →
      Steps c R iprop(I n ∗ bigSep L.toFinset A) (L.flatMap f) iprop(I (n + L.length) ∗ bigSep L.toFinset B)
  | [], n, _, _ => Steps.nil
  | t :: L, n, hL, h => by
    have ht : t ∉ L.toFinset := fun hm => (List.nodup_cons.mp hL).1 (List.mem_toFinset.mp hm)
    rw [List.toFinset_cons, BI.bigSep_insert ht, BI.bigSep_insert ht, List.flatMap_cons]
    have h0 := h 0 (Nat.succ_pos _)
    have ih := Steps.each f I A B L (n + 1) (List.nodup_cons.mp hL).2 fun i hi => by
      have := h (i + 1) (Nat.succ_lt_succ hi)
      rwa [show n + (i + 1) = n + 1 + i by omega] at this
    rw [List.length_cons, show n + (L.length + 1) = n + 1 + L.length by omega]
    refine Steps.append ((h0.frame (bigSep L.toFinset A)).conseq ?_ .rfl) ((ih.frame (B t)).conseq ?_ ?_)
    · show iprop(I n ∗ A t ∗ bigSep L.toFinset A) ⊢ iprop((I (n + 0) ∗ A t) ∗ bigSep L.toFinset A)
      iintro ⟨H1, H2, H3⟩
      isplitl [H1 H2]; · isplitl [H1] <;> iassumption
      iexact H3
    · show iprop((I (n + 0 + 1) ∗ B t) ∗ bigSep L.toFinset A) ⊢ iprop((I (n + 1) ∗ bigSep L.toFinset A) ∗ B t)
      iintro ⟨⟨H1, H2⟩, H3⟩
      isplitl [H1 H3]; · isplitl [H1] <;> iassumption
      iexact H2
    · show iprop((I (n + 1 + L.length) ∗ bigSep L.toFinset B) ∗ B t) ⊢ iprop(I (n + 1 + L.length) ∗ B t ∗ bigSep L.toFinset B)
      iintro ⟨⟨H1, H2⟩, H3⟩
      isplitl [H1]; · iexact H1
      isplitl [H3] <;> iassumption

end

end Cert.KernelIdeal.Mlp

end
-- ==== Proof.Ideal.Exchange.lean ====
/- The exchanges between the devices.

   Every tile of every layer is one exchange: a device sends its partial product to a peer and receives
   the peer's. Each has a semaphore for what leaves and one for what arrives; the barrier semaphore
   starts them, its two signals handing over the blocks the peers may write. Then the steps that send
   a block, wait for both ends, and meet at the barrier. -/
module

public import proofs.«01_k».proof.Proof.Ideal.Pieces
public import proofs.«01_k».proof.Proof.Ideal.Values

@[expose] public section

noncomputable section

namespace Cert.KernelIdeal.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (chain)

variable {F : FTy → Type} [FloatOps F]

local notation "𝕄" => MT nD τ sig Unit (Elt F) ℕ UU ℕ

/-! ## The semaphores -/

/-- The semaphores of a device the devices meet on: the barrier, and a tile's two. -/
abbrev Cell : Type := Option (Bool × Tile)
instance decCell : DecidableEq Cell := inferInstance

abbrev snd (t : Tile) : SemLoc sig := .dma (sS (ix t).1 (ix t).2).sem
abbrev rcv (t : Tile) : SemLoc sig := .dma (rS (ix t).1 (ix t).2).sem

def csem : Cell → SemLoc sig
  | none => .reg barS.sem
  | some (false, t) => snd t
  | some (true, t) => rcv t

abbrev barCell (c : Dev nD) : GSem nD τ sig := ((c : Thread nD τ), .reg barS.sem)
abbrev sndCell (c : Dev nD) (t : Tile) : GSem nD τ sig := ((c : Thread nD τ), snd t)
abbrev rcvCell (c : Dev nD) (t : Tile) : GSem nD τ sig := ((c : Thread nD τ), rcv t)
def kcell (p : Dev nD × Cell) : GSem nD τ sig := ((p.1 : Thread nD τ), csem p.2)

/-- The tile of exchange `i`'s block `j`. -/
def tileAt (i j : ℕ) : Option Tile :=
  if h : i < 6 ∧ j < 8 then
    if i % 2 = 0 then some (.inl (⟨i / 2, by omega⟩, ⟨j, h.2⟩))
    else if hj : j < 4 then some (.inr (⟨i / 2, by omega⟩, ⟨j, hj⟩)) else none
  else none

def kindOf : SemLoc sig → Option Cell
  | .reg _ => some none
  | .dma q => if q.val < 5 then none
      else if q.val < 53 then (tileAt ((q.val - 5) / 8) ((q.val - 5) % 8)).map fun t => some (false, t)
      else (tileAt ((q.val - 53) / 8) ((q.val - 53) % 8)).map fun t => some (true, t)

theorem kindOf_bar : kindOf (.reg barS.sem) = some none := rfl
theorem kindOf_snd (t : Tile) : kindOf (snd t) = some (some (false, t)) := by revert t; decide +kernel
theorem kindOf_rcv (t : Tile) : kindOf (rcv t) = some (some (true, t)) := by revert t; decide +kernel
theorem kindOf_wS (s : Fin 3) : kindOf (.dma (wS s).sem) = none := by revert s; decide +kernel

theorem kindOf_csem : ∀ k, kindOf (csem k) = some k
  | none => rfl
  | some (false, t) => kindOf_snd t
  | some (true, t) => kindOf_rcv t

theorem csem_injective : Function.Injective csem := fun a b h =>
  Option.some.inj ((kindOf_csem a).symm.trans ((congrArg kindOf h).trans (kindOf_csem b)))

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-! ## The blocks exchanged -/

/-- A block's credit. -/
abbrev N : ℕ := (accB 0).view.dmaCredit
theorem N_pos : 0 < N := View.dmaCredit_pos _ (by decide)
theorem credit_acc (j : Fin 8) : (accB j).view.dmaCredit = N := rfl
theorem credit_rcv (i : Fin 6) (j : Fin 8) : (rcvB i j).view.dmaCredit = N := rfl

/-- A tile's block of partial products. -/
abbrev accT (t : Tile) : Memref sig .tc .vmem S64x512 .f32 := accB (ix t).2
/-- Where the peer's arrives. -/
abbrev rcvT (t : Tile) : Memref sig .tc .vmem S64x512 .f32 := rcvB (ix t).1 (ix t).2

/-- Device `d`'s place for tile `t`, whatever it holds. -/
def landing (d : Dev nD) (t : Tile) : sProp 𝕄 := iprop(∃ X, has d (rcvT t) fullShare X)

/-- What a peer's signal hands device `c`: the places on that peer that `c` will write. -/
def barPay (c : Dev nD) (d : Bool) : sProp 𝕄 :=
  if d then bigSep Finset.univ fun p : Fin 3 × Fin 4 => landing (xd c) (.inr p)
  else bigSep Finset.univ fun p : Fin 3 × Fin 8 => landing (yd c) (.inl p)

omit [FloatOps F] in
instance landing_storable (d : Dev nD) (t : Tile) : BI.Storable (upEmb : UEmb _ 𝕄) (landing (F := F) d t) := by
  unfold landing; infer_instance
omit [FloatOps F] in
instance barPay_storable (c : Dev nD) (d : Bool) : BI.Storable (upEmb : UEmb _ 𝕄) (barPay (F := F) c d) := by
  unfold barPay; split <;> infer_instance

variable (V : Inp F)

/-- The device's own block when it has left, the peer's when it has come. -/
def sndPay (c : Dev nD) (t : Tile) : sProp 𝕄 := has c (accT t) fullShare (P V t c)
def rcvPay (c : Dev nD) (t : Tile) : sProp 𝕄 := has c (rcvT t) fullShare (P V t (pr t c))

instance sndPay_storable (c : Dev nD) (t : Tile) : BI.Storable (upEmb : UEmb _ 𝕄) (sndPay V c t) := by unfold sndPay has; infer_instance
instance rcvPay_storable (c : Dev nD) (t : Tile) : BI.Storable (upEmb : UEmb _ 𝕄) (rcvPay V c t) := by unfold rcvPay has; infer_instance

def payOf (c : Dev nD) (d : Bool) : Option Cell → sProp 𝕄
  | some none => barPay c d
  | some (some (false, t)) => sndPay V c t
  | some (some (true, t)) => rcvPay V c t
  | none => iprop(emp)

instance payOf_storable (c : Dev nD) (d : Bool) : ∀ k, BI.Storable (upEmb : UEmb _ 𝕄) (payOf V c d k)
  | some none => barPay_storable c d
  | some (some (false, t)) => sndPay_storable V c t
  | some (some (true, t)) => rcvPay_storable V c t
  | none => by unfold payOf; infer_instance

def dutiesOf : Option Cell → Finset Bool
  | some none => Finset.univ
  | some (some _) => {false}
  | none => ∅
def amountOf : Option Cell → ℕ
  | some none => 1
  | _ => N

/-- One round: the barrier has one unit from each peer, `false` along the second axis and `true` along the
    first; a tile's semaphores the block's credit. -/
def sch : Rounds.Schedule (GSem nD τ sig) Bool 𝕄 where
  duties g r := if r = 0 ∧ g.1.2 = .tc then dutiesOf (kindOf g.2) else ∅
  unitless _ := False
  amount g _ _ := amountOf (kindOf g.2)
  payload g _ d := payOf V g.1.1 d (kindOf g.2)
  amount_pos g _ _ _ := by
    rcases kindOf g.2 with _ | _ | _
    · exact N_pos
    · exact Nat.one_pos
    · exact N_pos

instance sch_payload_storable (g : GSem nD τ sig) (r : ℕ) (d : Bool) :
    BI.Storable (upEmb : UEmb _ 𝕄) ((sch V).payload g r d) := payOf_storable V g.1.1 d (kindOf g.2)

theorem duties_at (c : Dev nD) (sm : SemLoc sig) : (sch V).duties ((c : Thread nD τ), sm) 0 = dutiesOf (kindOf sm) := by dsimp only [sch]; exact if_pos ⟨rfl, rfl⟩
theorem duties_later (g : GSem nD τ sig) : ∀ r, 1 ≤ r → (sch V).duties g r = ∅ := fun r hr => by dsimp only [sch]; exact if_neg fun h => by omega
theorem duties_bar (c : Dev nD) : (sch V).duties (barCell c) 0 = Finset.univ := duties_at V c _
theorem duties_snd (c : Dev nD) (t : Tile) : (sch V).duties (sndCell c t) 0 = {false} := by rw [duties_at, kindOf_snd]; rfl
theorem duties_rcv (c : Dev nD) (t : Tile) : (sch V).duties (rcvCell c t) 0 = {false} := by rw [duties_at, kindOf_rcv]; rfl
theorem amount_snd (c : Dev nD) (t : Tile) (d : Bool) : (sch V).amount (sndCell c t) 0 d = N := by
  show amountOf (kindOf (snd t)) = N; rw [kindOf_snd]; rfl
theorem amount_rcv (c : Dev nD) (t : Tile) (d : Bool) : (sch V).amount (rcvCell c t) 0 d = N := by
  show amountOf (kindOf (rcv t)) = N; rw [kindOf_rcv]; rfl
theorem payload_snd (c : Dev nD) (t : Tile) (d : Bool) : (sch V).payload (sndCell c t) 0 d = sndPay V c t := by
  show payOf V c d (kindOf (snd t)) = _; rw [kindOf_snd]; rfl
theorem payload_rcv (c : Dev nD) (t : Tile) (d : Bool) : (sch V).payload (rcvCell c t) 0 d = rcvPay V c t := by
  show payOf V c d (kindOf (rcv t)) = _; rw [kindOf_rcv]; rfl
theorem payload_bar (c : Dev nD) (d : Bool) : (sch V).payload (barCell c) 0 d = barPay c d := rfl
theorem expect_bar (c : Dev nD) : (sch V).expect (barCell c) 0 = 2 := by
  unfold Schedule.expect Schedule.amountOf
  rw [duties_bar, Finset.sum_congr (g := fun _ => 1) rfl fun d _ => (rfl : (sch V).amount (barCell c) 0 d = 1), Finset.sum_const, Finset.card_univ, Fintype.card_bool, smul_eq_mul]
theorem expect_snd (c : Dev nD) (t : Tile) : (sch V).expect (sndCell c t) 0 = N := by
  unfold Schedule.expect Schedule.amountOf; rw [duties_snd, Finset.sum_singleton, amount_snd]
theorem expect_rcv (c : Dev nD) (t : Tile) : (sch V).expect (rcvCell c t) 0 = N := by
  unfold Schedule.expect Schedule.amountOf; rw [duties_rcv, Finset.sum_singleton, amount_rcv]
theorem rest_snd (c : Dev nD) (t : Tile) :
    bigSep ((sch V).duties (sndCell c t) 0 \ ∅) (fun d => (sch V).payload (sndCell c t) 0 d) = sndPay V c t := by
  rw [Finset.sdiff_empty, duties_snd, bigSep_singleton, payload_snd]
theorem rest_rcv (c : Dev nD) (t : Tile) :
    bigSep ((sch V).duties (rcvCell c t) 0 \ ∅) (fun d => (sch V).payload (rcvCell c t) 0 d) = rcvPay V c t := by
  rw [Finset.sdiff_empty, duties_rcv, bigSep_singleton, payload_rcv]
theorem rest_bar (c : Dev nD) :
    bigSep ((sch V).duties (barCell c) 0 \ ∅) (fun d => (sch V).payload (barCell c) 0 d)
      = iprop((bigSep Finset.univ fun p : Fin 3 × Fin 8 => landing (yd c) (.inl p))
          ∗ bigSep Finset.univ fun p : Fin 3 × Fin 4 => landing (F := F) (xd c) (.inr p)) := by
  rw [Finset.sdiff_empty, duties_bar, bigSep_univ_eq_bigSepL [false, true] (by decide) (by decide), bigSepL_cons_cons, bigSepL_singleton]
  rfl

/-! ## What is owed, and the levels -/

/-- The credit device `c` still owes its peers from tile number `n` on. -/
def Ow (c : Dev nD) (n : ℕ) : CellTallies nD τ sig Unit :=
  ∑ t ∈ Finset.univ.filter (fun t : Tile => n ≤ num t), tallyAt (rcvCell (pr t c) t) () N

theorem num_injective : Function.Injective num := by decide +kernel
theorem num_lt (t : Tile) : num t < 36 := by revert t; decide +kernel

theorem from_succ (t : Tile) : (Finset.univ.filter (fun u : Tile => num t ≤ num u)) = insert t (Finset.univ.filter (fun u : Tile => num t + 1 ≤ num u)) := by
  ext u
  simp only [Finset.mem_filter, Finset.mem_univ, true_and, Finset.mem_insert]
  constructor
  · intro h
    rcases Nat.eq_or_lt_of_le h with h | h
    · exact .inl (num_injective h.symm)
    · exact .inr h
  · rintro (rfl | h)
    · exact le_rfl
    · omega
theorem not_from_succ (t : Tile) : t ∉ (Finset.univ.filter (fun u : Tile => num t + 1 ≤ num u)) := by
  simp only [Finset.mem_filter, Finset.mem_univ, true_and]; omega

theorem Ow_step (c : Dev nD) (t : Tile) : Ow c (num t) = Ow c (num t + 1) + tallyAt (rcvCell (pr t c) t) () N := by
  unfold Ow; rw [from_succ, Finset.sum_insert (not_from_succ t), add_comm]
theorem Ow_last (c : Dev nD) : Ow c 36 = 0 := by
  unfold Ow; rw [Finset.filter_false_of_mem fun t _ => by have := num_lt t; omega, Finset.sum_empty]

/-- What a device owes at the start: both peers' barrier units too. -/
def O₁ (c : Dev nD) : CellTallies nD τ sig Unit := Ow c 0 + tallyAt (barCell (xd c)) () 1
def O₀ (c : Dev nD) : CellTallies nD τ sig Unit := O₁ c + tallyAt (barCell (yd c)) () 1

def L (g : GSem nD τ sig) : Finset Unit := if g.1.2 = .tc then {()} else ∅
/-- The barrier is above the local semaphores, the arrivals above it in the order of the program. -/
def levOf : Option Cell → ℕ
  | some none => 1
  | some (some (true, t)) => 2 + num t
  | _ => 0
def lv (g : GSem nD τ sig) (_ : Unit) : ℕ := levOf (kindOf g.2)

theorem L_of_ne (g : GSem nD τ sig) (h : g.1.2 ≠ .tc) : L g = ∅ := if_neg h
theorem lv_bar (c : Dev nD) : lv (barCell c) () = 1 := rfl
theorem lv_snd (c : Dev nD) (t : Tile) : lv (sndCell c t) () = 0 := by unfold lv; rw [kindOf_snd]; rfl
theorem lv_rcv (c : Dev nD) (t : Tile) : lv (rcvCell c t) () = 2 + num t := by unfold lv; rw [kindOf_rcv]; rfl

/-- Everything owed in `O` is above level `b`. -/
def Above (b : ℕ) (O : CellTallies nD τ sig Unit) : Prop := ∀ g u, 0 < O g u → g.1.2 = .tc ∧ b < lv g u

theorem Above.zero (b : ℕ) : Above b 0 := fun g u h => absurd h (Nat.lt_irrefl 0)
theorem Above.add {b : ℕ} {O O' : CellTallies nD τ sig Unit} (h : Above b O) (h' : Above b O') : Above b (O + O') := fun g u hp => by
  rw [Pi.add_apply, Finsupp.add_apply] at hp
  rcases Nat.eq_zero_or_pos (O g u) with h0 | h0
  · exact h' g u (by omega)
  · exact h g u h0
theorem Above.tally {b n : ℕ} (c : Dev nD) (sm : SemLoc sig) (h : b < lv ((c : Thread nD τ), sm) ()) :
    Above b (tallyAt ((c : Thread nD τ), sm) () n) := fun g u hp => by
  rw [tallyAt_apply] at hp
  by_cases hg : g = ((c : Thread nD τ), sm) ∧ u = ()
  · obtain ⟨rfl, rfl⟩ := hg; exact ⟨rfl, h⟩
  · rw [if_neg hg] at hp; exact absurd hp (Nat.lt_irrefl 0)
theorem Above.owed {b : ℕ} (c : Dev nD) (n : ℕ) (h : b < 2 + n) : Above b (Ow c n) := by
  unfold Ow
  refine Finset.sum_induction _ (Above b) (fun _ _ => Above.add) (Above.zero b) fun t ht => ?_
  refine Above.tally _ _ ?_
  rw [show lv (rcvCell (pr t c) t) () = 2 + num t from lv_rcv _ t]
  have := (Finset.mem_filter.mp ht).2
  omega
theorem Above.start (c : Dev nD) : Above 0 (O₀ c) :=
  ((Above.owed c 0 (by decide)).add (Above.tally _ _ Nat.one_pos)).add (Above.tally _ _ Nat.one_pos)

omit [FloatOps F] in
theorem mayWait (c : Dev nD) (sm : SemLoc sig) (b : ℕ) (hb : lv ((c : Thread nD τ), sm) () ≤ b) (O : CellTallies nD τ sig Unit) (hO : Above b O) :
    (levAts L lv : sProp 𝕄) ⊢ MayWait (c : Thread nD τ) sm () O :=
  MayOwe.of_cut (L := L) (lev := lv) b (fun p hp => by rw [Finset.mem_singleton.mp hp]; exact Finset.mem_singleton_self _)
    (fun g u hg => by unfold L; rw [if_pos (hO g u hg).1]; exact Finset.mem_singleton_self _)
    (fun p hp => by rw [Finset.mem_singleton.mp hp]; exact hb)
    (fun g u hg => (hO g u hg).2)

/-- What the device owes, whatever it has waited for. -/
def ows (c : Dev nD) (O : CellTallies nD τ sig Unit) : sProp 𝕄 := iprop(∃ W, owes (c : Thread nD τ) O W)

/-! ## The records every device reads -/

variable (κ : Dev nD × Cell → ℕ)

def recs : sProp 𝕄 :=
  iprop((bigSep Finset.univ fun p : Dev nD × Cell => cellInv ER (sch V) (κ p) (kcell p))
    ∗ (bigSep Finset.univ fun p : Dev nD × Cell => reached ER (kcell p) 0) ∗ levAts L lv)

instance recs_persistent : BI.Persistent (recs V κ) := by unfold recs; infer_instance

theorem recs_inv (p : Dev nD × Cell) : recs V κ ⊢ cellInv ER (sch V) (κ p) (kcell p) := by
  have h : (bigSep Finset.univ fun p : Dev nD × Cell => (cellInv ER (sch V) (κ p) (kcell p) : sProp 𝕄)) ⊢ cellInv ER (sch V) (κ p) (kcell p) :=
    bigSep_elim (Finset.mem_univ p)
  unfold recs; iintro ⟨H, -⟩; iapply h; iexact H
theorem recs_reached (p : Dev nD × Cell) : recs V κ ⊢ reached ER (kcell p) 0 := by
  have h : (bigSep Finset.univ fun p : Dev nD × Cell => (reached ER (kcell p) 0 : sProp 𝕄)) ⊢ reached ER (kcell p) 0 := bigSep_elim (Finset.mem_univ p)
  unfold recs; iintro ⟨-, H, -⟩; iapply h; iexact H
theorem recs_lev : recs V κ ⊢ levAts L lv := by unfold recs; iintro ⟨-, -, H⟩; iexact H

/-! ## An exchange's states -/

/-- What device `c` has for tile `t`'s exchange from the start: the two tokens it pays with, its positions at
    its two semaphores, the credit of what will come. -/
def chan (c : Dev nD) (t : Tile) : sProp 𝕄 :=
  iprop(dutyTok ER (sndCell c t) 0 false ∗ dutyTok ER (rcvCell (pr t c) t) 0 false
    ∗ atPos ER (sndCell c t) 0 ∅ 0 ∗ atPos ER (rcvCell c t) 0 ∅ 0 ∗ cred (tallyAt (rcvCell c t) () N))
/-- With it the peer's place. -/
def ready (c : Dev nD) (t : Tile) : sProp 𝕄 := iprop(landing (pr t c) t ∗ chan c t)
/-- The block is on its way. -/
def sent (c : Dev nD) (t : Tile) : sProp 𝕄 :=
  iprop(cred (tallyAt (sndCell c t) () N) ∗ cred (tallyAt (rcvCell c t) () N) ∗ atPos ER (sndCell c t) 0 ∅ 0 ∗ atPos ER (rcvCell c t) 0 ∅ 0)
/-- Both semaphores are at zero again. -/
def quiet (c : Dev nD) (t : Tile) : sProp 𝕄 := iprop(semVal (sndCell c t) 0 ∗ semVal (rcvCell c t) 0)

/-! ## The steps -/

theorem step_give (c : Dev nD) (t : Tile) :
    Steps c (recs V κ) iprop(has c (accT t) fullShare (P V t c) ∗ ready c t ∗ ows c (Ow c (num t)))
      [give (ix t).1 (pr t c) (ix t).2] iprop(sent c t ∗ ows c (Ow c (num t + 1))) := Steps.one fun k Q => by
  unfold give ready chan landing sent ows has held
  simp only [Prog.lift, Prog.bind_op, Prog.bind_ret, Prog.pure_eq_ret]
  iintro ⟨#HR, ⟨⟨%fs, %hs, Hs⟩, ⟨⟨%X, %fd, %hd, Hd⟩, Ht1, Ht2, Ha1, Ha2, Hc2⟩, ⟨%W, HO⟩⟩, Hk⟩
  iapply (Rounds.wp_send_pointsTo 𝒱₀ ER (sch V) (c : Thread nD τ) none (κ₁ := κ (c, some (false, t))) (κ₂ := κ (pr t c, some (true, t)))
    (src := accT t) (dst := rcvT t) (sS := snd t) (sem := rcv t) (c' := Dev.tc (pr t c)) (fs := fs) (fd := fd) (q := fullShare)
    (r₁ := 0) (r₂ := 0) (d₁ := false) (d₂ := false)
    (by rw [duties_snd]; exact Finset.mem_singleton_self _) (by rw [duties_rcv]; exact Finset.mem_singleton_self _)
    () () N (credit_rcv (ix t).1 (ix t).2) (amount_snd V c t false) (amount_rcv V (pr t c) t false) (Ow c (num t + 1)) (Ow_step c t) (W := W)
    (by rw [payload_snd]; unfold sndPay; rw [← hs]; exact held_intro c (accT t) _ fullShare fs)
    (by
      rw [payload_rcv]; unfold rcvPay
      rw [pr_pr, show P V t c = (rcvT t).view.read (Elt F) ((rcvT t).view.write (Elt F) fd ((accT t).view.read (Elt F) fs) Finset.univ) from by
        rw [View.read_write_univ]; exact hs.symm]
      exact held_intro (pr t c) (rcvT t) _ fullShare _)) $$ [Hs Hd HO Ht1 Ht2]
  · isplitr; · iapply (recs_inv V κ (c, some (false, t))); iexact HR
    isplitr; · iapply (recs_inv V κ (pr t c, some (true, t))); iexact HR
    isplitl [Hs]; · iexact Hs
    isplitl [Hd]; · iexact Hd
    isplitl [HO]; · iexact HO
    isplitl [Ht1]; · iexact Ht1
    isplitr; · iapply (recs_reached V κ (c, some (false, t))); iexact HR
    isplitl [Ht2]; · iexact Ht2
    iapply (recs_reached V κ (pr t c, some (true, t))); iexact HR
  iintro ⟨Hc1, HO⟩
  iapply Hk
  isplitl [Hc1 Hc2 Ha1 Ha2]
  · isplitl [Hc1]; · iexact Hc1
    isplitl [Hc2]; · iexact Hc2
    isplitl [Ha1] <;> iassumption
  iexists W; iexact HO

theorem step_taken (c : Dev nD) (t : Tile) (O : CellTallies nD τ sig Unit) (hO : Above 0 O) :
    Steps c (recs V κ) iprop((cred (tallyAt (sndCell c t) () N) ∗ atPos ER (sndCell c t) 0 ∅ 0) ∗ ows c O)
      [taken (ix t).1 (ix t).2] iprop((has c (accT t) fullShare (P V t c) ∗ semVal (sndCell c t) 0) ∗ ows c O) := Steps.one fun k Q => by
  unfold taken ows
  simp only [Prog.lift, Prog.bind_op, Prog.bind_ret, Prog.pure_eq_ret]
  iintro ⟨#HR, ⟨⟨Hc, Ha⟩, ⟨%W, HO⟩⟩, Hk⟩
  iapply (Rounds.wp_wait_rest_token 𝒱₀ ER (sch V) (c : Thread nD τ) none (κ := κ (c, some (false, t)))
    (wpE_waitDma2_eq 𝒱₀ (c : Thread nD τ) none Set.univ) (Set.mem_univ _) () (O := O) (W := W) (R := 0) (m := 0) (T := ∅)
    (by rw [Nat.zero_add]; exact (expect_snd V c t).symm)) $$ [Hc HO Ha]
  · isplitr; · iapply (recs_inv V κ (c, some (false, t))); iexact HR
    isplitl [Hc]; · iexact Hc
    isplitl [HO]; · iexact HO
    isplitr; · iapply (mayWait c (snd t) 0 (le_of_eq (lv_snd c t)) O hO); iapply (recs_lev V κ); iexact HR
    iexact Ha
  iintro ⟨HO, Ha, -, Hp⟩
  ihave Hp' := (Entails.of_eq (rest_snd V c t)) $$ Hp
  imod (Rounds.cell_close ER (sch V) (Set.mem_univ (κ (c, some (false, t)))) (fun h => h) (R := 0 + 1) (duties_later V (sndCell c t))) $$ [Ha] with Hz
  · isplitr; · iapply (recs_inv V κ (c, some (false, t))); iexact HR
    iexact Ha
  iapply Hk
  isplitl [Hp' Hz]
  · isplitl [Hp']; · unfold sndPay; iexact Hp'
    iexact Hz
  iexists _; iexact HO

theorem step_come (c : Dev nD) (t : Tile) (O : CellTallies nD τ sig Unit) (hO : Above (2 + num t) O) :
    Steps c (recs V κ) iprop((cred (tallyAt (rcvCell c t) () N) ∗ atPos ER (rcvCell c t) 0 ∅ 0) ∗ ows c O)
      [come (ix t).1 (ix t).2] iprop((has c (rcvT t) fullShare (P V t (pr t c)) ∗ semVal (rcvCell c t) 0) ∗ ows c O) := Steps.one fun k Q => by
  unfold come ows
  simp only [Prog.lift, Prog.bind_op, Prog.bind_ret, Prog.pure_eq_ret]
  iintro ⟨#HR, ⟨⟨Hc, Ha⟩, ⟨%W, HO⟩⟩, Hk⟩
  iapply (Rounds.wp_wait_rest_token 𝒱₀ ER (sch V) (c : Thread nD τ) none (κ := κ (c, some (true, t)))
    (wpE_waitDma2_eq 𝒱₀ (c : Thread nD τ) none Set.univ) (Set.mem_univ _) () (O := O) (W := W) (R := 0) (m := 0) (T := ∅)
    (by rw [Nat.zero_add]; exact (credit_rcv _ _).trans (expect_rcv V c t).symm)) $$ [Hc HO Ha]
  · isplitr; · iapply (recs_inv V κ (c, some (true, t))); iexact HR
    isplitl [Hc]; · rw [show (rcvB (ix t).1 (ix t).2).view.dmaCredit = N from credit_rcv _ _]; iexact Hc
    isplitl [HO]; · iexact HO
    isplitr; · iapply (mayWait c (rcv t) (2 + num t) (le_of_eq (lv_rcv c t)) O hO); iapply (recs_lev V κ); iexact HR
    iexact Ha
  iintro ⟨HO, Ha, -, Hp⟩
  ihave Hp' := (Entails.of_eq (rest_rcv V c t)) $$ Hp
  imod (Rounds.cell_close ER (sch V) (Set.mem_univ (κ (c, some (true, t)))) (fun h => h) (R := 0 + 1) (duties_later V (rcvCell c t))) $$ [Ha] with Hz
  · isplitr; · iapply (recs_inv V κ (c, some (true, t))); iexact HR
    iexact Ha
  iapply Hk
  isplitl [Hp' Hz]
  · isplitl [Hp']; · unfold rcvPay; iexact Hp'
    iexact Hz
  iexists _; iexact HO

/-- Both ends waited for: the device's own block is back, the peer's is here. -/
theorem step_fetch (c : Dev nD) (t : Tile) (n : ℕ) (hn : num t < n) :
    Steps c (recs V κ) iprop(sent c t ∗ ows c (Ow c n)) [taken (ix t).1 (ix t).2, come (ix t).1 (ix t).2]
      iprop((has c (accT t) fullShare (P V t c) ∗ has c (rcvT t) fullShare (P V t (pr t c)) ∗ quiet c t) ∗ ows c (Ow c n)) := by
  refine Steps.cons
    (((step_taken V κ c t (Ow c n) (Above.owed c n (by omega))).frame iprop(cred (tallyAt (rcvCell c t) () N) ∗ atPos ER (rcvCell c t) 0 ∅ 0)).conseq ?_ .rfl)
    (((step_come V κ c t (Ow c n) (Above.owed c n (by omega))).frame iprop(has c (accT t) fullShare (P V t c) ∗ semVal (sndCell c t) 0)).conseq ?_ ?_)
  · unfold sent
    iintro ⟨⟨H1, H2, H3, H4⟩, HO⟩
    isplitl [H1 H3 HO]
    · isplitl [H1 H3]; · isplitl [H1] <;> iassumption
      iexact HO
    isplitl [H2] <;> iassumption
  · iintro ⟨⟨H1, HO⟩, H2⟩
    isplitl [H2 HO]
    · isplitl [H2] <;> iassumption
    iexact H1
  · unfold quiet
    iintro ⟨⟨⟨H1, H2⟩, HO⟩, H3, H4⟩
    isplitr [HO]
    · isplitl [H3]; · iexact H3
      isplitl [H1]; · iexact H1
      isplitl [H4] <;> iassumption
    iexact HO

/-- The meeting: the device hands its places over and gets its peers'. -/
theorem step_meet (c : Dev nD) :
    Steps c (recs V κ)
      iprop((dutyTok ER (barCell (yd c)) 0 false ∗ dutyTok ER (barCell (xd c)) 0 true ∗ atPos ER (barCell c) 0 ∅ 0 ∗ cred (tallyAt (barCell c) () 2)
          ∗ (bigSep Finset.univ fun p : Fin 3 × Fin 8 => landing c (.inl p)) ∗ (bigSep Finset.univ fun p : Fin 3 × Fin 4 => landing c (.inr p)))
        ∗ ows c (O₀ c))
      (meet c)
      iprop((semVal (barCell c) 0 ∗ (bigSep Finset.univ fun p : Fin 3 × Fin 8 => landing (yd c) (.inl p))
          ∗ (bigSep Finset.univ fun p : Fin 3 × Fin 4 => landing (xd c) (.inr p))) ∗ ows c (Ow c 0)) := fun rest Q => by
  unfold meet ows
  simp only [List.cons_append, List.nil_append, Pipeline.chain_cons, semSignalWord, semWaitWord, Prog.lift, Prog.bind_op, Prog.bind_ret, Prog.pure_eq_ret]
  iintro ⟨#HR, ⟨⟨Ht1, Ht2, Ha, Hc, HE, HO⟩, ⟨%W, Hw⟩⟩, Hk⟩
  iapply (Rounds.wp_signal 𝒱₀ ER (sch V) (c : Thread nD τ) none (dst := (yd c : Thread nD τ)) (κ := κ (yd c, none))
      (d := false) (by rw [duties_bar]; exact Finset.mem_univ _) (by rfl) () (O₁ c) rfl) $$ [Hw Ht1 HE]
  · isplitr; · iapply (recs_inv V κ (yd c, none)); iexact HR
    isplitl [Hw]; · iexact Hw
    isplitl [Ht1]; · iexact Ht1
    isplitl [HE]
    · rw [payload_bar]; unfold barPay; rw [if_neg Bool.false_ne_true, yd_yd]; iexact HE
    iapply (recs_reached V κ (yd c, none)); iexact HR
  iintro Hw
  unfold O₁
  iapply (Rounds.wp_signal 𝒱₀ ER (sch V) (c : Thread nD τ) none (dst := (xd c : Thread nD τ)) (κ := κ (xd c, none))
      (d := true) (by rw [duties_bar]; exact Finset.mem_univ _) (by rfl) () (Ow c 0) rfl) $$ [Hw Ht2 HO]
  · isplitr; · iapply (recs_inv V κ (xd c, none)); iexact HR
    isplitl [Hw]; · iexact Hw
    isplitl [Ht2]; · iexact Ht2
    isplitl [HO]
    · rw [payload_bar]; unfold barPay; rw [if_pos rfl, xd_xd]; iexact HO
    iapply (recs_reached V κ (xd c, none)); iexact HR
  iintro Hw
  iapply (Rounds.wp_wait_rest_token 𝒱₀ ER (sch V) (c : Thread nD τ) none (κ := κ (c, none))
      (wpE_semWait_eq 𝒱₀ (c : Thread nD τ) none Set.univ) (Set.mem_univ _) () (O := Ow c 0) (W := W) (R := 0) (m := 0) (T := ∅)
      (by rw [expect_bar]; rfl)) $$ [Hc Hw Ha]
  · isplitr; · iapply (recs_inv V κ (c, none)); iexact HR
    isplitl [Hc]; · iexact Hc
    isplitl [Hw]; · iexact Hw
    isplitr; · iapply (mayWait c (.reg barS.sem) 1 le_rfl (Ow c 0) (Above.owed c 0 (by decide))); iapply (recs_lev V κ); iexact HR
    iexact Ha
  iintro ⟨Hw, Ha, -, Hp⟩
  ihave Hp' := (Entails.of_eq (rest_bar V c)) $$ Hp
  imod (Rounds.cell_close ER (sch V) (Set.mem_univ (κ (c, none))) (fun h => h) (R := 0 + 1) (duties_later V (barCell c))) $$ [Ha] with Hz
  · isplitr; · iapply (recs_inv V κ (c, none)); iexact HR
    iexact Ha
  iapply Hk
  isplitr [Hw]
  · isplitl [Hz]; · iexact Hz
    iexact Hp'
  iexists _; iexact Hw

end Cert.KernelIdeal.Mlp

end
-- ==== Proof.Ideal.Weights.lean ====
/- The weights: three slots in turn. While tile `n` is computed, the weights of tile `n + 1` are on their
   way and those of `n + 2` are started. -/
module

public import proofs.«01_k».proof.Proof.Ideal.Exchange

@[expose] public section

noncomputable section

namespace Cert.KernelIdeal.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (chain)

variable {F : FTy → Type} [FloatOps F]

local notation "𝕄" => MT nD τ sig Unit (Elt F) ℕ UU ℕ

variable (V : Inp F) (κ : Dev nD × Cell → ℕ)

/-! ## The tiles in order -/

/-- The tile of number `n`. -/
def tileNo (n : ℕ) : Option Tile :=
  if h : n < 36 then
    if h8 : n % 12 < 8 then some (.inl (⟨n / 12, by omega⟩, ⟨n % 12, h8⟩))
    else some (.inr (⟨n / 12, by omega⟩, ⟨n % 12 - 8, by omega⟩))
  else none

theorem tileNo_num (t : Tile) : tileNo (num t) = some t := by revert t; decide +kernel
theorem num_of_tileNo {n : ℕ} {t : Tile} (h : tileNo n = some t) : num t = n := by
  unfold tileNo at h
  split at h
  · split at h
    · cases h; show 12 * (n / 12) + n % 12 = n; omega
    · cases h; show 12 * (n / 12) + 8 + (n % 12 - 8) = n; omega
  · cases h

/-- The slot tile number `n` goes through. -/
def slot (n : ℕ) : Fin 3 := ⟨n % 3, Nat.mod_lt _ (by decide)⟩
theorem slot_three (n : ℕ) : slot (n + 1 + 2) = slot n := Fin.ext (by show (n + 1 + 2) % 3 = n % 3; omega)

/-! ## A tile's pieces -/

def startT (t : Tile) (s : Fin 3) : TP F PUnit := Sum.elim (fun p => startE p.1 p.2 s) (fun p => startO p.1 p.2 s) t
def awaitT (t : Tile) (s : Fin 3) : TP F PUnit := Sum.elim (fun p => awaitE p.1 p.2 s) (fun p => awaitO p.1 p.2 s) t
def compT (t : Tile) (s : Fin 3) : TP F PUnit := Sum.elim (fun p => compE p.1 p.2 s) (fun p => compO (up p.2) s) t
/-- What is started while tile `n - 2` is computed. -/
def startN (n : ℕ) : List (TP F PUnit) :=
  match tileNo n with
  | some t => [startT t (slot n)]
  | none => []
def tileT (d : Dev nD) (t : Tile) : List (TP F PUnit) :=
  startN (num t + 2) ++ [awaitT t (slot (num t)), compT t (slot (num t)), give (ix t).1 (pr t d) (ix t).2]

theorem tileE_eq (d : Dev nD) (l : Fin 3) (j : Fin 8) : tileE (F := F) d l j = tileT d (.inl (l, j)) := by
  fin_cases l <;> fin_cases j <;> rfl
theorem tileO_eq (d : Dev nD) (l : Fin 3) (j : Fin 4) : tileO (F := F) d l j = tileT d (.inr (l, j)) := by
  fin_cases l <;> fin_cases j <;> rfl

/-! ## The weights -/

/-- The elements of slot `s`. -/
abbrev slotS (s : Fin 3) : Finset (Idx (wM.view.loc ((0 : Dev nD) : Thread nD τ))) := (slotO s).view.set

theorem rect_sub (s : Fin 3) : (Rect.unit (s := S3x4096x512) ![(s : ℕ), 0, 0] S1x2048x512.size (in_slotE s)).set
    ⊆ (Rect.unit (s := S3x4096x512) ![(s : ℕ), 0, 0] S1x4096x512.size (in_slotO s)).set := by
  intro i hi
  have h := Rect.mem_set_unit.mp hi
  refine Rect.mem_set_unit.mpr fun a => ?_
  match a with
  | 0 => exact h 0
  | 1 => exact ⟨(h 1).1, lt_of_lt_of_le (h 1).2 (show 0 + 2048 ≤ 0 + 4096 by omega)⟩
  | 2 => exact h 2
theorem slotE_set (s : Fin 3) : (slotE s).view.set = (Rect.unit (s := S3x4096x512) ![(s : ℕ), 0, 0] S1x2048x512.size (in_slotE s)).set :=
  (View.set_reshape _ _).trans (View.set_slice_whole cc0_scratch0 _)
theorem slotO_set (s : Fin 3) : (slotO s).view.set = (Rect.unit (s := S3x4096x512) ![(s : ℕ), 0, 0] S1x4096x512.size (in_slotO s)).set :=
  (View.set_reshape _ _).trans (View.set_slice_whole cc0_scratch0 _)
theorem slotE_sub (s : Fin 3) : (slotE s).view.set ⊆ slotS s :=
  (subset_of_eq (slotE_set s)).trans ((rect_sub s).trans (subset_of_eq (slotO_set s).symm))

theorem slotO_sub (s : Fin 3) : (slotO s).view.set ⊆ slotS s := subset_of_eq rfl

/-- A tile's weights in slot `s`. -/
def inSlot (c : Dev nD) (s : Fin 3) (t : Tile) : sProp 𝕄 :=
  Sum.elim (fun p => held c (slotE s) (slotS s) fullShare (colsI (V.wi p.1 c) p.2))
    (fun p => held c (slotO s) (slotS s) fullShare (colsO (V.wo p.1 c) p.2)) t
/-- A tile's columns of the arguments. -/
def src (c : Dev nD) (t : Tile) : sProp 𝕄 :=
  Sum.elim (fun p => has c (colE p.1 p.2) fullShare.right (colsI (V.wi p.1 c) p.2))
    (fun p => has c (colO p.1 p.2) fullShare.right (colsO (V.wo p.1 c) p.2)) t
def creditT (s : Fin 3) (t : Tile) : ℕ := Sum.elim (fun _ => (slotE s).view.dmaCredit) (fun _ => (slotO s).view.dmaCredit) t

abbrev wsCell (c : Dev nD) (s : Fin 3) : GSem nD τ sig := ((c : Thread nD τ), .dma (wS s).sem)

/-- Slot `s` free. -/
def free (c : Dev nD) (s : Fin 3) : sProp 𝕄 :=
  iprop((∃ f, (wM.view.loc (c : Thread nD τ) ↦[slotS s]{fullShare} f)) ∗ semVal (wsCell c s) 0)
/-- The weights of tile `t` on their way into slot `s`. -/
def fly (c : Dev nD) (s : Fin 3) (t : Tile) : sProp 𝕄 :=
  Flight EC (c : Thread nD τ) (.dma (wS s).sem) () (creditT s t) (inSlot V c s t)

theorem free_of (c : Dev nD) (s : Fin 3) (t : Tile) : iprop(inSlot V c s t ∗ semVal (wsCell c s) 0) ⊢ free (F := F) c s := by
  unfold free
  rcases t with p | p
  · show iprop(held c (slotE s) (slotS s) fullShare (colsI (V.wi p.1 c) p.2) ∗ semVal (wsCell c s) 0) ⊢ _
    unfold held
    iintro ⟨⟨%f, -, H⟩, Hv⟩
    isplitl [H]; · iexists f; iexact H
    iexact Hv
  · show iprop(held c (slotO s) (slotS s) fullShare (colsO (V.wo p.1 c) p.2) ∗ semVal (wsCell c s) 0) ⊢ _
    unfold held
    iintro ⟨⟨%f, -, H⟩, Hv⟩
    isplitl [H]; · iexists f; iexact H
    iexact Hv

theorem creditE_pos (s : Fin 3) : 0 < (slotE s).view.dmaCredit := View.dmaCredit_pos _ (Nat.zero_lt_succ _)
theorem creditO_pos (s : Fin 3) : 0 < (slotO s).view.dmaCredit := View.dmaCredit_pos _ (Nat.zero_lt_succ _)

theorem step_startE (c : Dev nD) (l : Fin 3) (j : Fin 8) (s : Fin 3) (X : Vec F S2048x512 .f32) {R : sProp 𝕄} :
    Steps c R iprop(free c s ∗ has c (colE l j) fullShare.right X) [startE l j s]
      (Flight EC (c : Thread nD τ) (.dma (wS s).sem) () (slotE s).view.dmaCredit (held c (slotE s) (slotS s) fullShare X)) := Steps.one fun k Q => by
  unfold startE free
  simp only [Prog.lift, Prog.bind_op, Prog.bind_ret, Prog.pure_eq_ret]
  iintro ⟨-, ⟨⟨⟨%f, Hd⟩, Hv⟩, Hs⟩, Hk⟩
  have h := wp_start c (colE l j) (slotE s) (.dma (wS s).sem) (hsrc := View.wordExact_bits rfl) (hdst := (View.wordExact_bits rfl).reshape _ _)
    (hsem := ⟨Or.inl rfl, trivial⟩) (slotS s) (slotE_sub s) (creditE_pos s) fullShare.right X f k Q
  iapply h $$ [Hs Hd Hv]
  · isplitl [Hs]; · iexact Hs
    isplitl [Hd]; · iexact Hd
    iexact Hv
  iexact Hk

theorem step_startO (c : Dev nD) (l : Fin 3) (j : Fin 4) (s : Fin 3) (X : Vec F S4096x512 .f32) {R : sProp 𝕄} :
    Steps c R iprop(free c s ∗ has c (colO l j) fullShare.right X) [startO l j s]
      (Flight EC (c : Thread nD τ) (.dma (wS s).sem) () (slotO s).view.dmaCredit (held c (slotO s) (slotS s) fullShare X)) := Steps.one fun k Q => by
  unfold startO free
  simp only [Prog.lift, Prog.bind_op, Prog.bind_ret, Prog.pure_eq_ret]
  iintro ⟨-, ⟨⟨⟨%f, Hd⟩, Hv⟩, Hs⟩, Hk⟩
  have h := wp_start c (colO l j) (slotO s) (.dma (wS s).sem) (hsrc := View.wordExact_bits rfl) (hdst := (View.wordExact_bits rfl).reshape _ _)
    (hsem := ⟨Or.inl rfl, trivial⟩) (slotS s) (slotO_sub s) (creditO_pos s) fullShare.right X f k Q
  iapply h $$ [Hs Hd Hv]
  · isplitl [Hs]; · iexact Hs
    isplitl [Hd]; · iexact Hd
    iexact Hv
  iexact Hk

theorem inSlot_inl (c : Dev nD) (s : Fin 3) (p : Fin 3 × Fin 8) : inSlot V c s (.inl p) = held c (slotE s) (slotS s) fullShare (colsI (V.wi p.1 c) p.2) := by
  unfold inSlot; rw [Sum.elim_inl]
theorem inSlot_inr (c : Dev nD) (s : Fin 3) (p : Fin 3 × Fin 4) : inSlot V c s (.inr p) = held c (slotO s) (slotS s) fullShare (colsO (V.wo p.1 c) p.2) := by
  unfold inSlot; rw [Sum.elim_inr]
theorem src_inl (c : Dev nD) (p : Fin 3 × Fin 8) : src V c (.inl p) = has c (colE p.1 p.2) fullShare.right (colsI (V.wi p.1 c) p.2) := by
  unfold src; rw [Sum.elim_inl]
theorem src_inr (c : Dev nD) (p : Fin 3 × Fin 4) : src V c (.inr p) = has c (colO p.1 p.2) fullShare.right (colsO (V.wo p.1 c) p.2) := by
  unfold src; rw [Sum.elim_inr]
theorem fly_inl (c : Dev nD) (s : Fin 3) (p : Fin 3 × Fin 8) :
    fly V c s (.inl p) = Flight EC (c : Thread nD τ) (.dma (wS s).sem) () (slotE s).view.dmaCredit (inSlot V c s (.inl p)) := by
  unfold fly creditT; rw [Sum.elim_inl]
theorem fly_inr (c : Dev nD) (s : Fin 3) (p : Fin 3 × Fin 4) :
    fly V c s (.inr p) = Flight EC (c : Thread nD τ) (.dma (wS s).sem) () (slotO s).view.dmaCredit (inSlot V c s (.inr p)) := by
  unfold fly creditT; rw [Sum.elim_inr]
theorem startT_inl (s : Fin 3) (p : Fin 3 × Fin 8) : startT (F := F) (.inl p) s = startE p.1 p.2 s := by unfold startT; rw [Sum.elim_inl]
theorem startT_inr (s : Fin 3) (p : Fin 3 × Fin 4) : startT (F := F) (.inr p) s = startO p.1 p.2 s := by unfold startT; rw [Sum.elim_inr]
theorem awaitT_inl (s : Fin 3) (p : Fin 3 × Fin 8) : awaitT (F := F) (.inl p) s = awaitE p.1 p.2 s := by unfold awaitT; rw [Sum.elim_inl]
theorem awaitT_inr (s : Fin 3) (p : Fin 3 × Fin 4) : awaitT (F := F) (.inr p) s = awaitO p.1 p.2 s := by unfold awaitT; rw [Sum.elim_inr]

theorem step_start (c : Dev nD) (t : Tile) (s : Fin 3) {R : sProp 𝕄} : Steps c R iprop(free c s ∗ src V c t) [startT t s] (fly V c s t) := by
  rcases t with p | p
  · rw [fly_inl, inSlot_inl, src_inl, startT_inl]
    exact step_startE c p.1 p.2 s (colsI (V.wi p.1 c) p.2)
  · rw [fly_inr, inSlot_inr, src_inr, startT_inr]
    exact step_startO c p.1 p.2 s (colsO (V.wo p.1 c) p.2)

theorem lv_ws (c : Dev nD) (s : Fin 3) : lv (wsCell c s) () = 0 := by unfold lv; rw [kindOf_wS]; rfl

theorem step_awaitE (c : Dev nD) (l : Fin 3) (j : Fin 8) (s : Fin 3) (D : sProp 𝕄) (O : CellTallies nD τ sig Unit) (hO : Above 0 O) :
    Steps c (recs V κ) iprop(Flight EC (c : Thread nD τ) (.dma (wS s).sem) () (slotE s).view.dmaCredit D ∗ ows c O) [awaitE l j s]
      iprop((D ∗ semVal (wsCell c s) 0) ∗ ows c O) := Steps.one fun k Q => by
  have hm := (recs_lev V κ).trans (mayWait c (.dma (wS s).sem) 0 (le_of_eq (lv_ws c s)) O hO)
  unfold ows awaitE
  simp only [Prog.lift, Prog.bind_op, Prog.bind_ret, Prog.pure_eq_ret]
  iintro ⟨#HR, ⟨Hf, ⟨%W, HO⟩⟩, Hk⟩
  iapply (wp_waitLocalO EC 𝒱₀ (c : Thread nD τ) none () (N := (slotE s).view.dmaCredit) rfl (O := O) (W := W)) $$ [Hf HO]
  · isplitl [Hf]; · iexact Hf
    isplitl [HO]; · iexact HO
    iapply hm; iexact HR
  iintro ⟨H, Hv, HO⟩
  iapply Hk
  isplitl [H Hv]
  · isplitl [H]; · iexact H
    iexact Hv
  iexists _; iexact HO

theorem step_awaitO (c : Dev nD) (l : Fin 3) (j : Fin 4) (s : Fin 3) (D : sProp 𝕄) (O : CellTallies nD τ sig Unit) (hO : Above 0 O) :
    Steps c (recs V κ) iprop(Flight EC (c : Thread nD τ) (.dma (wS s).sem) () (slotO s).view.dmaCredit D ∗ ows c O) [awaitO l j s]
      iprop((D ∗ semVal (wsCell c s) 0) ∗ ows c O) := Steps.one fun k Q => by
  have hm := (recs_lev V κ).trans (mayWait c (.dma (wS s).sem) 0 (le_of_eq (lv_ws c s)) O hO)
  unfold ows awaitO
  simp only [Prog.lift, Prog.bind_op, Prog.bind_ret, Prog.pure_eq_ret]
  iintro ⟨#HR, ⟨Hf, ⟨%W, HO⟩⟩, Hk⟩
  iapply (wp_waitLocalO EC 𝒱₀ (c : Thread nD τ) none () (N := (slotO s).view.dmaCredit) rfl (O := O) (W := W)) $$ [Hf HO]
  · isplitl [Hf]; · iexact Hf
    isplitl [HO]; · iexact HO
    iapply hm; iexact HR
  iintro ⟨H, Hv, HO⟩
  iapply Hk
  isplitl [H Hv]
  · isplitl [H]; · iexact H
    iexact Hv
  iexists _; iexact HO

theorem step_await (c : Dev nD) (t : Tile) (s : Fin 3) (O : CellTallies nD τ sig Unit) (hO : Above 0 O) :
    Steps c (recs V κ) iprop(fly V c s t ∗ ows c O) [awaitT t s] iprop((inSlot V c s t ∗ semVal (wsCell c s) 0) ∗ ows c O) := by
  rcases t with p | p
  · rw [fly_inl, awaitT_inl]
    exact step_awaitE V κ c p.1 p.2 s _ O hO
  · rw [fly_inr, awaitT_inr]
    exact step_awaitO V κ c p.1 p.2 s _ O hO

/-! ## The slots in turn -/

/-- Tile number `n`'s weights on their way, if there is such a tile. -/
def flyN (c : Dev nD) (n : ℕ) : sProp 𝕄 :=
  match tileNo n with
  | some t => fly V c (slot n) t
  | none => free c (slot n)
/-- The arguments' columns of the tiles from number `n` on. -/
def srcs (c : Dev nD) (n : ℕ) : sProp 𝕄 := bigSep (Finset.univ.filter (fun t : Tile => n ≤ num t)) (src V c)
/-- Before tile number `n`. -/
def slots (c : Dev nD) (n : ℕ) : sProp 𝕄 := iprop(flyN V c n ∗ flyN V c (n + 1) ∗ free c (slot (n + 2)) ∗ srcs V c (n + 2))

theorem step_startN (c : Dev nD) (n : ℕ) {R : sProp 𝕄} [BI.Persistent R] :
    Steps c R iprop(free c (slot n) ∗ srcs V c n) (startN n) iprop(flyN V c n ∗ srcs V c (n + 1)) := by
  unfold startN flyN
  rcases h : tileNo n with _ | t
  · refine Steps.nil.conseq .rfl ?_
    iintro ⟨H1, H2⟩
    isplitl [H1]; · iexact H1
    have hsub : srcs V c n ⊢ srcs V c (n + 1) := bigSep_subset fun t ht => by
      rw [Finset.mem_filter] at ht ⊢
      exact ⟨ht.1, by omega⟩
    iapply hsub
    iexact H2
  · have hn := num_of_tileNo h
    refine (((step_start V c t (slot n)).frame (srcs V c (n + 1))).conseq ?_ .rfl)
    rw [show srcs V c n = iprop(src V c t ∗ srcs V c (n + 1)) from by
      unfold srcs; rw [← hn, from_succ]; exact bigSep_insert (not_from_succ t)]
    iintro ⟨H1, H2, H3⟩
    isplitr [H3]
    · isplitl [H1] <;> iassumption
    iexact H3

end Cert.KernelIdeal.Mlp

end
-- ==== Proof.Ideal.Comp.lean ====
/- A tile's product, and the addition of the peer's. -/
module

public import proofs.«01_k».proof.Proof.Ideal.Weights

@[expose] public section

noncomputable section

namespace Cert.KernelIdeal.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (chain)

variable {F : FTy → Type} [FloatOps F]

local notation "𝕄" => MT nD τ sig Unit (Elt F) ℕ UU ℕ

variable (V : Inp F) (κ : Dev nD × Cell → ℕ)

/-! ## The computations -/

/-- What a tile multiplies the weights by. -/
def actT (c : Dev nD) (t : Tile) : sProp 𝕄 :=
  Sum.elim (fun p => has c (act p.1) fullShare (XL V p.1 c)) (fun p => has c hM fullShare (HL V p.1 c)) t
/-- Block `j` of the partial products, whatever it holds. -/
def accAny (c : Dev nD) (j : Fin 8) : sProp 𝕄 := iprop(∃ X, has c (accB j) fullShare X)

theorem emb_zero {s : Shape} {off : Fin s.rank → ℕ} (h0 : off = fun _ => 0) (inb : ∀ a, off a + s.size a ≤ s.size a) (x : (Rect.unit off s.size inb).shape.Idx) :
    (Rect.unit off s.size inb).emb x = x := by
  subst h0; funext a; apply Fin.ext; show 0 + 1 * (x a).val = (x a).val; omega
theorem zero2 : (![0, 0] : Fin 2 → ℕ) = fun _ => 0 := funext fun a => by fin_cases a <;> rfl

theorem acc_sub (j : Fin 8) : (aM.access (Rect.unit (s := S8x64x512) ![(j : ℕ), 0, 0] S1x64x512.size (in_acc j))).set ⊆ (accB j).view.set :=
  subset_of_eq (View.set_reshape _ _).symm
theorem rcv_sub (i : Fin 6) (j : Fin 8) :
    (rM.access (Rect.unit (s := S6x8x64x512) ![(i : ℕ), (j : ℕ), 0, 0] S1x1x64x512.size (in_rcv i j))).set ⊆ (rcvB i j).view.set :=
  subset_of_eq (View.set_reshape _ _).symm
theorem slotE_acc (s : Fin 3) : (wM.access (Rect.unit (s := S3x4096x512) ![(s : ℕ), 0, 0] S1x2048x512.size (in_slotE s))).set ⊆ slotS s :=
  (subset_of_eq (View.set_reshape _ _).symm).trans (slotE_sub s)
theorem slotO_acc (s : Fin 3) : (wM.access (Rect.unit (s := S3x4096x512) ![(s : ℕ), 0, 0] S1x4096x512.size (in_slotO s))).set ⊆ slotS s :=
  subset_of_eq (View.set_reshape _ _).symm

theorem castA : S64x512.ShapeCasts S1x64x512 := by decide
theorem castA' : S1x64x512.ShapeCasts S64x512 := by decide
theorem castR : S64x512.ShapeCasts S1x1x64x512 := by decide
theorem shapeCasts_S2048x512_S1x2048x512 : S2048x512.ShapeCasts S1x2048x512 := by decide
theorem shapeCasts_S4096x512_S1x4096x512 : S4096x512.ShapeCasts S1x4096x512 := by decide

theorem step_compE (c : Dev nD) (l : Fin 3) (j : Fin 8) (s : Fin 3) (A : Vec F S64x2048 .f32) (W : Vec F S2048x512 .f32) {R : sProp 𝕄} :
    Steps c R iprop(has c (act l) fullShare A ∗ held c (slotE s) (slotS s) fullShare W ∗ accAny c j) [compE l j s]
      iprop(has c (act l) fullShare A ∗ held c (slotE s) (slotS s) fullShare W ∗ has c (accB j) fullShare (dotI A W)) := Steps.one fun k Q => by
  unfold compE accAny
  simp only [Prog.lift, Prog.bind_op, Prog.bind_ret, Prog.pure_eq_ret]
  iintro ⟨-, ⟨Ha, Hw, ⟨%X, Hp⟩⟩, Hk⟩
  iapply (wp_load_all c (act l)) $$ Ha; iintro Ha
  iapply (wp_load_sq c wM (Rect.unit (s := S3x4096x512) ![(s : ℕ), 0, 0] S1x2048x512.size (in_slotE s)) (fun _ => rfl) squeezes_S1x2048x512_S2048x512 (shapeCasts_S2048x512_S1x2048x512) (slotS s) (slotE_acc s)) $$ Hw; iintro Hw
  iapply (wp_load_sq c aM (Rect.unit (s := S8x64x512) ![(j : ℕ), 0, 0] S1x64x512.size (in_acc j)) (fun _ => rfl) squeezes_S1x64x512_S64x512 castA _ (acc_sub j)) $$ Hp; iintro Hp
  iapply (wp_store_sq c aM (Rect.unit (s := S8x64x512) ![(j : ℕ), 0, 0] S1x64x512.size (in_acc j)) (fun _ => rfl) squeezes_S1x64x512_S64x512 castA' _ _ (acc_sub j)) $$ Hp; iintro Hp
  iapply Hk
  isplitl [Ha]; · iexact Ha
  isplitl [Hw]; · iexact Hw
  rw [show (fun x => A ((Rect.unit (s := S64x2048) ![0, 0] S64x2048.size in_act).emb x)) = A from funext fun x => congrArg A (emb_zero zero2 _ x),
    ← payE_eq l A W shapeCasts_S2048x512_S1x2048x512 castA']
  iexact Hp

theorem step_compO (c : Dev nD) (j : Fin 8) (s : Fin 3) (A : Vec F S64x4096 .f32) (W : Vec F S4096x512 .f32) {R : sProp 𝕄} :
    Steps c R iprop(has c hM fullShare A ∗ held c (slotO s) (slotS s) fullShare W ∗ accAny c j) [compO j s]
      iprop(has c hM fullShare A ∗ held c (slotO s) (slotS s) fullShare W ∗ has c (accB j) fullShare (dotO A W)) := Steps.one fun k Q => by
  unfold compO accAny
  simp only [Prog.lift, Prog.bind_op, Prog.bind_ret, Prog.pure_eq_ret]
  iintro ⟨-, ⟨Ha, Hw, ⟨%X, Hp⟩⟩, Hk⟩
  iapply (wp_load_all c hM) $$ Ha; iintro Ha
  iapply (wp_load_sq c wM (Rect.unit (s := S3x4096x512) ![(s : ℕ), 0, 0] S1x4096x512.size (in_slotO s)) (fun _ => rfl) squeezes_S1x4096x512_S4096x512 (shapeCasts_S4096x512_S1x4096x512) (slotS s) (slotO_acc s)) $$ Hw; iintro Hw
  iapply (wp_load_sq c aM (Rect.unit (s := S8x64x512) ![(j : ℕ), 0, 0] S1x64x512.size (in_acc j)) (fun _ => rfl) squeezes_S1x64x512_S64x512 castA _ (acc_sub j)) $$ Hp; iintro Hp
  iapply (wp_store_sq c aM (Rect.unit (s := S8x64x512) ![(j : ℕ), 0, 0] S1x64x512.size (in_acc j)) (fun _ => rfl) squeezes_S1x64x512_S64x512 castA' _ _ (acc_sub j)) $$ Hp; iintro Hp
  iapply Hk
  isplitl [Ha]; · iexact Ha
  isplitl [Hw]; · iexact Hw
  rw [show (fun x => A ((Rect.unit (s := S64x4096) ![0, 0] S64x4096.size in_hW).emb x)) = A from funext fun x => congrArg A (emb_zero zero2 _ x),
    ← payO_eq A W shapeCasts_S4096x512_S1x4096x512 castA']
  iexact Hp

theorem actT_inl (c : Dev nD) (p : Fin 3 × Fin 8) : actT V c (.inl p) = has c (act p.1) fullShare (XL V p.1 c) := by unfold actT; rw [Sum.elim_inl]
theorem actT_inr (c : Dev nD) (p : Fin 3 × Fin 4) : actT V c (.inr p) = has c hM fullShare (HL V p.1 c) := by unfold actT; rw [Sum.elim_inr]
theorem compT_inl (s : Fin 3) (p : Fin 3 × Fin 8) : compT (F := F) (.inl p) s = compE p.1 p.2 s := by unfold compT; rw [Sum.elim_inl]
theorem compT_inr (s : Fin 3) (p : Fin 3 × Fin 4) : compT (F := F) (.inr p) s = compO (up p.2) s := by unfold compT; rw [Sum.elim_inr]

theorem step_comp (c : Dev nD) (t : Tile) (s : Fin 3) {R : sProp 𝕄} :
    Steps c R iprop(actT V c t ∗ inSlot V c s t ∗ accAny c (ix t).2) [compT t s]
      iprop(actT V c t ∗ inSlot V c s t ∗ has c (accT t) fullShare (P V t c)) := by
  rcases t with p | p
  · rw [actT_inl, inSlot_inl, compT_inl]
    exact step_compE c p.1 p.2 s (XL V p.1 c) (colsI (V.wi p.1 c) p.2)
  · rw [actT_inr, inSlot_inr, compT_inr]
    exact step_compO c (up p.2) s (HL V p.1 c) (colsO (V.wo p.1 c) p.2)

/-- The hidden activations with the first `n` blocks of columns at those of `S`. -/
def partH (c : Dev nD) (S : Fin 8 → Vec F S64x512 .f32) (n : ℕ) : sProp 𝕄 :=
  iprop(∃ Y, ⌜∀ j : Fin 8, (j : ℕ) < n → ∀ y, Y ((rH j).emb y) = S j y⌝ ∗ has c hM fullShare Y)
/-- The same of layer `l`'s result. -/
def partD (c : Dev nD) (l : Fin 3) (S : Fin 4 → Vec F S64x512 .f32) (n : ℕ) : sProp 𝕄 :=
  iprop(∃ Y, ⌜∀ j : Fin 4, (j : ℕ) < n → ∀ y, Y ((rD j).emb y) = S j y⌝ ∗ has c (dst l) fullShare Y)

omit [FloatOps F] in
theorem overlayH {S : Fin 8 → Vec F S64x512 .f32} {Y : Vec F S64x4096 .f32} {n : ℕ} (h : ∀ j : Fin 8, (j : ℕ) < n → ∀ y, Y ((rH j).emb y) = S j y)
    (j : Fin 8) (hj : (j : ℕ) = n) (i : Fin 8) (hi : (i : ℕ) < n + 1) (y : S64x512.Idx) : (rH j).overlay Y (S j) ((rH i).emb y) = S i y := by
  by_cases hij : i = j
  · subst hij; exact Rect.overlay_emb _ _ _ _
  · refine (Rect.overlay_of_not_mem _ _ _ (emb_rH_ne hij y)).trans (h i ?_ y)
    have : (i : ℕ) ≠ j := fun e => hij (Fin.ext e)
    omega
omit [FloatOps F] in
theorem overlayD {S : Fin 4 → Vec F S64x512 .f32} {Y : Vec F S64x2048 .f32} {n : ℕ} (h : ∀ j : Fin 4, (j : ℕ) < n → ∀ y, Y ((rD j).emb y) = S j y)
    (j : Fin 4) (hj : (j : ℕ) = n) (i : Fin 4) (hi : (i : ℕ) < n + 1) (y : S64x512.Idx) : (rD j).overlay Y (S j) ((rD i).emb y) = S i y := by
  by_cases hij : i = j
  · subst hij; exact Rect.overlay_emb _ _ _ _
  · refine (Rect.overlay_of_not_mem _ _ _ (emb_rD_ne hij y)).trans (h i ?_ y)
    have : (i : ℕ) ≠ j := fun e => hij (Fin.ext e)
    omega

theorem step_joinE (c : Dev nD) (i : Fin 6) (j : Fin 8) (a b : Vec F S64x512 .f32) (S : Fin 8 → Vec F S64x512 .f32) (hS : S j = addR a b) {R : sProp 𝕄} :
    Steps c R iprop(partH c S j ∗ has c (accB j) fullShare a ∗ has c (rcvB i j) fullShare b) [joinE i j]
      iprop(partH c S (j + 1) ∗ has c (accB j) fullShare a ∗ has c (rcvB i j) fullShare b) := Steps.one fun k Q => by
  unfold joinE partH
  simp only [Prog.lift, Prog.bind_op, Prog.bind_ret, Prog.pure_eq_ret]
  iintro ⟨-, ⟨⟨%Y, %hY, Hh⟩, Ha, Hb⟩, Hk⟩
  iapply (wp_load_sq c aM (Rect.unit (s := S8x64x512) ![(j : ℕ), 0, 0] S1x64x512.size (in_acc j)) (fun _ => rfl) squeezes_S1x64x512_S64x512 castA _ (acc_sub j)) $$ Ha; iintro Ha
  iapply (wp_load_sq c rM (Rect.unit (s := S6x8x64x512) ![(i : ℕ), (j : ℕ), 0, 0] S1x1x64x512.size (in_rcv i j)) (fun _ => rfl) squeezes_S1x1x64x512_S64x512 castR _ (rcv_sub i j)) $$ Hb; iintro Hb
  iapply (wp_load_all c hM) $$ Hh; iintro Hh
  iapply (wp_store_part c hM) $$ Hh; iintro Hh
  iapply Hk
  isplitl [Hh]
  · iexists ((rH j).overlay Y (sumE (shapeCast S1x64x512 a castA) (shapeCast S1x1x64x512 b castR)))
    isplitr; swap; · iexact Hh
    ipureintro
    rw [sumE_eq, ← hS]
    exact overlayH hY j rfl
  isplitl [Ha]; · iexact Ha
  iexact Hb

theorem step_joinO (c : Dev nD) (l : Fin 3) (i : Fin 6) (k : Fin 4) (j : Fin 8) (a b : Vec F S64x512 .f32) (S : Fin 4 → Vec F S64x512 .f32) (hS : S k = addV a b) {R : sProp 𝕄} :
    Steps c R iprop(partD c l S k ∗ has c (accB j) fullShare a ∗ has c (rcvB i j) fullShare b) [joinO l i k j]
      iprop(partD c l S (k + 1) ∗ has c (accB j) fullShare a ∗ has c (rcvB i j) fullShare b) := Steps.one fun k' Q => by
  unfold joinO partD
  simp only [Prog.lift, Prog.bind_op, Prog.bind_ret, Prog.pure_eq_ret]
  iintro ⟨-, ⟨⟨%Y, %hY, Hh⟩, Ha, Hb⟩, Hk⟩
  iapply (wp_load_sq c aM (Rect.unit (s := S8x64x512) ![(j : ℕ), 0, 0] S1x64x512.size (in_acc j)) (fun _ => rfl) squeezes_S1x64x512_S64x512 castA _ (acc_sub j)) $$ Ha; iintro Ha
  iapply (wp_load_sq c rM (Rect.unit (s := S6x8x64x512) ![(i : ℕ), (j : ℕ), 0, 0] S1x1x64x512.size (in_rcv i j)) (fun _ => rfl) squeezes_S1x1x64x512_S64x512 castR _ (rcv_sub i j)) $$ Hb; iintro Hb
  iapply (wp_load_all c (dst l)) $$ Hh; iintro Hh
  iapply (wp_store_part c (dst l)) $$ Hh; iintro Hh
  iapply Hk
  isplitl [Hh]
  · iexists ((rD k).overlay Y (sumO l (shapeCast S1x64x512 a castA) (shapeCast S1x1x64x512 b castR)))
    isplitr; swap; · iexact Hh
    ipureintro
    rw [sumO_eq, ← hS]
    exact overlayD hY k rfl
  isplitl [Ha]; · iexact Ha
  iexact Hb

end Cert.KernelIdeal.Mlp

end
-- ==== Proof.Ideal.Tiles.lean ====
/- A tile's steps: bring weights, compute a partial product, send it; later fetch the peer's and add. -/
module

public import proofs.«01_k».proof.Proof.Ideal.Comp

@[expose] public section

noncomputable section

namespace Cert.KernelIdeal.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (chain)

variable {F : FTy → Type} [FloatOps F]

local notation "𝕄" => MT nD τ sig Unit (Elt F) ℕ UU ℕ

variable (V : Inp F) (κ : Dev nD × Cell → ℕ)

/-! ## The tiles -/

/-- A tile: its weights are waited for and the next ones started, its product is computed and sent. -/
theorem step_tile (c : Dev nD) (t : Tile) :
    Steps c (recs V κ)
      iprop((slots V c (num t) ∗ ows c (Ow c (num t)) ∗ actT V c t) ∗ accAny c (ix t).2 ∗ ready c t)
      (tileT c t)
      iprop((slots V c (num t + 1) ∗ ows c (Ow c (num t + 1)) ∗ actT V c t) ∗ sent c t) := by
  unfold tileT slots
  refine Steps.append (((step_startN V c (num t + 2)).frame
      iprop(flyN V c (num t) ∗ flyN V c (num t + 1) ∗ ows c (Ow c (num t)) ∗ actT V c t ∗ accAny c (ix t).2 ∗ ready c t)).conseq ?_ .rfl)
    (Steps.cons (((step_await V κ c t (slot (num t)) (Ow c (num t)) (Above.owed c _ (by omega))).frame
        iprop(flyN V c (num t + 2) ∗ srcs V c (num t + 2 + 1) ∗ flyN V c (num t + 1) ∗ actT V c t ∗ accAny c (ix t).2 ∗ ready c t)).conseq ?_ .rfl)
      (Steps.cons (((step_comp V c t (slot (num t))).frame
          iprop(semVal (wsCell c (slot (num t))) 0 ∗ ows c (Ow c (num t)) ∗ flyN V c (num t + 2) ∗ srcs V c (num t + 2 + 1) ∗ flyN V c (num t + 1) ∗ ready c t)).conseq ?_ .rfl)
        (((step_give V κ c t).frame
          iprop(actT V c t ∗ inSlot V c (slot (num t)) t ∗ semVal (wsCell c (slot (num t))) 0 ∗ flyN V c (num t + 2) ∗ srcs V c (num t + 2 + 1) ∗ flyN V c (num t + 1))).conseq ?_ ?_)))
  · iintro ⟨⟨⟨H1, H2, H3, H4⟩, H5, H6⟩, H7, H8⟩
    isplitl [H3 H4]; · isplitl [H3] <;> iassumption
    isplitl [H1]; · iexact H1
    isplitl [H2]; · iexact H2
    isplitl [H5]; · iexact H5
    isplitl [H6]; · iexact H6
    isplitl [H7] <;> iassumption
  · rw [show flyN V c (num t) = fly V c (slot (num t)) t from by unfold flyN; rw [tileNo_num]]
    iintro ⟨⟨H1, H2⟩, H3, H4, H5, H6, H7, H8⟩
    isplitl [H3 H5]; · isplitl [H3] <;> iassumption
    isplitl [H1]; · iexact H1
    isplitl [H2]; · iexact H2
    isplitl [H4]; · iexact H4
    isplitl [H6]; · iexact H6
    isplitl [H7] <;> iassumption
  · iintro ⟨⟨⟨H1, H2⟩, H3⟩, H4, H5, H6, H7, H8, H9⟩
    isplitl [H1 H7 H8]
    · isplitl [H7]; · iexact H7
      isplitl [H1] <;> iassumption
    isplitl [H2]; · iexact H2
    isplitl [H3]; · iexact H3
    isplitl [H4]; · iexact H4
    isplitl [H5]; · iexact H5
    isplitl [H6] <;> iassumption
  · iintro ⟨⟨H1, H2, H3⟩, H4, H5, H6, H7, H8, H9⟩
    isplitl [H3 H5 H9]
    · isplitl [H3]; · iexact H3
      isplitl [H9] <;> iassumption
    isplitl [H1]; · iexact H1
    isplitl [H2]; · iexact H2
    isplitl [H4]; · iexact H4
    isplitl [H6]; · iexact H6
    isplitl [H7] <;> iassumption
  · iintro ⟨⟨H1, H2⟩, H3, H4, H5, H6, H7, H8⟩
    isplitr [H1]; swap; · iexact H1
    isplitr [H2 H3]
    · isplitl [H8]; · iexact H8
      isplitl [H6]; · iexact H6
      isplitl [H4 H5]
      · rw [slot_three]
        iapply (free_of V c (slot (num t)) t)
        isplitl [H4] <;> iassumption
      · iexact H7
    isplitl [H2] <;> iassumption

/-! ## The fetches -/

/-- A tile's exchange is over: the device has its place back. -/
def done (c : Dev nD) (t : Tile) : sProp 𝕄 := iprop(landing c t ∗ quiet c t)

theorem step_finE (c : Dev nD) (l : Fin 3) (j : Fin 8) (n : ℕ) (hn : num (.inl (l, j)) < n) (S : Fin 8 → Vec F S64x512 .f32)
    (hS : S j = addR (P V (.inl (l, j)) c) (P V (.inl (l, j)) (yd c))) :
    Steps c (recs V κ) iprop((ows c (Ow c n) ∗ partH c S j) ∗ sent c (.inl (l, j))) (finE l j)
      iprop((ows c (Ow c n) ∗ partH c S (j + 1)) ∗ accAny c j ∗ done c (.inl (l, j))) := by
  refine Steps.append (p := [taken (iE l) j, come (iE l) j]) (q := [joinE (iE l) j])
    (((step_fetch V κ c (.inl (l, j)) n hn).frame (partH c S j)).conseq ?_ .rfl)
    (((step_joinE c (iE l) j (P V (.inl (l, j)) c) (P V (.inl (l, j)) (yd c)) S hS).frame iprop(quiet c (.inl (l, j)) ∗ ows c (Ow c n))).conseq ?_ ?_)
  · iintro ⟨⟨H1, H2⟩, H3⟩
    isplitr [H2]
    · isplitl [H3] <;> iassumption
    iexact H2
  · iintro ⟨⟨⟨H1, H2, H3⟩, H4⟩, H5⟩
    isplitl [H1 H2 H5]
    · isplitl [H5]; · iexact H5
      isplitl [H1]; · iexact H1
      iexact H2
    isplitl [H3] <;> iassumption
  · unfold accAny done landing
    iintro ⟨⟨H1, H2, H3⟩, H4, H5⟩
    isplitl [H1 H5]; · isplitl [H5] <;> iassumption
    isplitl [H2]; · iexists _; iexact H2
    isplitl [H3]; · iexists _; iexact H3
    iexact H4

theorem step_finO (c : Dev nD) (l : Fin 3) (j : Fin 4) (n : ℕ) (hn : num (.inr (l, j)) < n) (S : Fin 4 → Vec F S64x512 .f32)
    (hS : S j = addV (P V (.inr (l, j)) c) (P V (.inr (l, j)) (xd c))) :
    Steps c (recs V κ) iprop((ows c (Ow c n) ∗ partD c l S j) ∗ sent c (.inr (l, j))) (finO l j)
      iprop((ows c (Ow c n) ∗ partD c l S (j + 1)) ∗ accAny c (up j) ∗ done c (.inr (l, j))) := by
  refine Steps.append (p := [taken (iO l) (up j), come (iO l) (up j)]) (q := [joinO l (iO l) j (up j)])
    (((step_fetch V κ c (.inr (l, j)) n hn).frame (partD c l S j)).conseq ?_ .rfl)
    (((step_joinO c l (iO l) j (up j) (P V (.inr (l, j)) c) (P V (.inr (l, j)) (xd c)) S hS).frame iprop(quiet c (.inr (l, j)) ∗ ows c (Ow c n))).conseq ?_ ?_)
  · iintro ⟨⟨H1, H2⟩, H3⟩
    isplitr [H2]
    · isplitl [H3] <;> iassumption
    iexact H2
  · iintro ⟨⟨⟨H1, H2, H3⟩, H4⟩, H5⟩
    isplitl [H1 H2 H5]
    · isplitl [H5]; · iexact H5
      isplitl [H1]; · iexact H1
      iexact H2
    isplitl [H3] <;> iassumption
  · unfold accAny done landing
    iintro ⟨⟨H1, H2, H3⟩, H4, H5⟩
    isplitl [H1 H5]; · isplitl [H5] <;> iassumption
    isplitl [H2]; · iexists _; iexact H2
    isplitl [H3]; · iexists _; iexact H3
    iexact H4

end Cert.KernelIdeal.Mlp

end
-- ==== Proof.Ideal.Body.lean ====
/- The body: three layers, each of an upward and a downward product. -/
module

public import proofs.«01_k».proof.Proof.Ideal.Tiles

@[expose] public section

noncomputable section

namespace Cert.KernelIdeal.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (chain)

variable {F : FTy → Type} [FloatOps F]

local notation "𝕄" => MT nD τ sig Unit (Elt F) ℕ UU ℕ

variable (V : Inp F) (κ : Dev nD × Cell → ℕ)

/-! ## The lists -/

theorem at8 : ∀ (i : ℕ) (h : i < [(0 : Fin 8), 1, 2, 3, 4, 5, 6, 7].length), ([(0 : Fin 8), 1, 2, 3, 4, 5, 6, 7][i] : ℕ) = i := by decide
theorem at4 : ∀ (i : ℕ) (h : i < [(0 : Fin 4), 1, 2, 3].length), ([(0 : Fin 4), 1, 2, 3][i] : ℕ) = i := by decide
theorem at3 : ∀ (i : ℕ) (h : i < [(0 : Fin 3), 1, 2].length), ([(0 : Fin 3), 1, 2][i] : ℕ) = i := by decide
theorem all8 : [(0 : Fin 8), 1, 2, 3, 4, 5, 6, 7].toFinset = Finset.univ := by decide
theorem all4 : [(0 : Fin 4), 1, 2, 3].toFinset = Finset.univ := by decide
theorem all3 : [(0 : Fin 3), 1, 2].toFinset = Finset.univ := by decide

theorem num_inl (l : Fin 3) (j : Fin 8) : num (.inl (l, j)) = 12 * (l : ℕ) + j := rfl
theorem num_inr (l : Fin 3) (j : Fin 4) : num (.inr (l, j)) = 12 * (l : ℕ) + 8 + j := rfl

/-- Steps for each entry of a list that counts up, the number of entries done running along. -/
theorem Steps.upto {c : Dev nD} {R : sProp 𝕄} [BI.Persistent R] {n : ℕ} (f : Fin n → List (TP F PUnit)) (I : ℕ → sProp 𝕄) (A B : Fin n → sProp 𝕄)
    (L : List (Fin n)) (hL : L.Nodup) (hat : ∀ (i : ℕ) (h : i < L.length), (L[i] : ℕ) = i) (hall : L.toFinset = Finset.univ) (hlen : L.length = n)
    (h : ∀ j : Fin n, Steps c R iprop(I j ∗ A j) (f j) iprop(I ((j : ℕ) + 1) ∗ B j)) :
    Steps c R iprop(I 0 ∗ bigSep Finset.univ A) (L.flatMap f) iprop(I n ∗ bigSep Finset.univ B) := by
  have h' := Steps.each (R := R) (c := c) f I A B L 0 hL fun i hi => by
    have := h L[i]
    rw [hat i hi] at this
    rwa [Nat.zero_add]
  rw [hall, hlen, Nat.zero_add] at h'
  exact h'

/-! ## A layer's first half -/

/-- All blocks of the partial products, whatever they hold. -/
def accs (c : Dev nD) : sProp 𝕄 := bigSep Finset.univ (accAny (F := F) c)

theorem step_tilesE (c : Dev nD) (l : Fin 3) :
    Steps c (recs V κ)
      iprop((slots V c (12 * (l : ℕ) + 0) ∗ ows c (Ow c (12 * (l : ℕ) + 0)) ∗ has c (act l) fullShare (XL V l c))
        ∗ bigSep Finset.univ fun j : Fin 8 => iprop(accAny c j ∗ ready c (.inl (l, j))))
      ([(0 : Fin 8), 1, 2, 3, 4, 5, 6, 7].flatMap (tileE c l))
      iprop((slots V c (12 * (l : ℕ) + 8) ∗ ows c (Ow c (12 * (l : ℕ) + 8)) ∗ has c (act l) fullShare (XL V l c))
        ∗ bigSep Finset.univ fun j : Fin 8 => sent c (.inl (l, j))) :=
  Steps.upto (tileE c l) (fun n => iprop(slots V c (12 * (l : ℕ) + n) ∗ ows c (Ow c (12 * (l : ℕ) + n)) ∗ has c (act l) fullShare (XL V l c)))
    (fun j => iprop(accAny c j ∗ ready c (.inl (l, j)))) (fun j => sent c (.inl (l, j))) _ (by decide) at8 all8 rfl fun j => by
      have h := step_tile V κ c (.inl (l, j))
      rw [actT_inl, num_inl, ← tileE_eq] at h
      exact h

theorem step_finsE (c : Dev nD) (l : Fin 3) :
    Steps c (recs V κ)
      iprop((ows c (Ow c (12 * (l : ℕ) + 8)) ∗ partH c (fun j => addR (upP V (XL V l) l j c) (upP V (XL V l) l j (yd c))) 0)
        ∗ bigSep Finset.univ fun j : Fin 8 => sent c (.inl (l, j)))
      ([(0 : Fin 8), 1, 2, 3, 4, 5, 6, 7].flatMap (finE l))
      iprop((ows c (Ow c (12 * (l : ℕ) + 8)) ∗ partH c (fun j => addR (upP V (XL V l) l j c) (upP V (XL V l) l j (yd c))) 8)
        ∗ bigSep Finset.univ fun j : Fin 8 => iprop(accAny c j ∗ done c (.inl (l, j)))) :=
  Steps.upto (finE l) (fun n => iprop(ows c (Ow c (12 * (l : ℕ) + 8)) ∗ partH c (fun j => addR (upP V (XL V l) l j c) (upP V (XL V l) l j (yd c))) n))
    (fun j => sent c (.inl (l, j))) (fun j => iprop(accAny c j ∗ done c (.inl (l, j)))) _ (by decide) at8 all8 rfl fun j =>
      step_finE V κ c l j (12 * (l : ℕ) + 8) (by rw [num_inl]; omega) _ rfl

theorem partH_zero (c : Dev nD) (S : Fin 8 → Vec F S64x512 .f32) : (iprop(∃ Y, has c hM fullShare Y) : sProp 𝕄) ⊢ partH c S 0 := by
  unfold partH
  iintro ⟨%Y, H⟩
  iexists Y
  isplitr; · ipureintro; intro j hj; omega
  iexact H
theorem partH_all (c : Dev nD) (S : Fin 8 → Vec F S64x512 .f32) : partH c S 8 ⊢ has c hM fullShare (catH S) := by
  unfold partH
  iintro ⟨%Y, %h, H⟩
  rw [← eq_catH S Y fun j y => h j j.isLt y]
  iexact H
theorem partD_zero (c : Dev nD) (l : Fin 3) (S : Fin 4 → Vec F S64x512 .f32) : (iprop(∃ Y, has c (dst l) fullShare Y) : sProp 𝕄) ⊢ partD c l S 0 := by
  unfold partD
  iintro ⟨%Y, H⟩
  iexists Y
  isplitr; · ipureintro; intro j hj; omega
  iexact H
theorem partD_all (c : Dev nD) (l : Fin 3) (S : Fin 4 → Vec F S64x512 .f32) : partD c l S 4 ⊢ has c (dst l) fullShare (catD S) := by
  unfold partD
  iintro ⟨%Y, %h, H⟩
  rw [← eq_catD S Y fun j y => h j j.isLt y]
  iexact H

theorem step_halfE (c : Dev nD) (l : Fin 3) :
    Steps c (recs V κ)
      iprop((slots V c (12 * (l : ℕ)) ∗ ows c (Ow c (12 * (l : ℕ))) ∗ has c (act l) fullShare (XL V l c))
        ∗ (∃ Y, has c hM fullShare Y) ∗ accs c ∗ bigSep Finset.univ fun j : Fin 8 => ready c (.inl (l, j)))
      ([(0 : Fin 8), 1, 2, 3, 4, 5, 6, 7].flatMap (tileE c l) ++ [(0 : Fin 8), 1, 2, 3, 4, 5, 6, 7].flatMap (finE l))
      iprop((slots V c (12 * (l : ℕ) + 8) ∗ ows c (Ow c (12 * (l : ℕ) + 8)) ∗ has c (act l) fullShare (XL V l c))
        ∗ has c hM fullShare (HL V l c) ∗ accs c ∗ bigSep Finset.univ fun j : Fin 8 => done c (.inl (l, j))) := by
  refine Steps.append (((step_tilesE V κ c l).frame iprop(∃ Y, has c hM fullShare Y)).conseq ?_ .rfl)
    (((step_finsE V κ c l).frame iprop(slots V c (12 * (l : ℕ) + 8) ∗ has c (act l) fullShare (XL V l c))).conseq ?_ ?_)
  · unfold accs
    rw [bigSep_sep', Nat.add_zero]
    iintro ⟨H1, H2, H3, H4⟩
    isplitr [H2]; swap; · iexact H2
    isplitl [H1]; · iexact H1
    isplitl [H3]; · iexact H3
    iexact H4
  · iintro ⟨⟨⟨H1, H2, H3⟩, H4⟩, H5⟩
    isplitr [H1 H3]
    · isplitr [H4]; swap; · iexact H4
      isplitl [H2]; · iexact H2
      iapply partH_zero; iexact H5
    isplitl [H1]; · iexact H1
    iexact H3
  · unfold accs
    rw [bigSep_sep']
    iintro ⟨⟨⟨H1, H2⟩, H3, H4⟩, H5, H6⟩
    isplitl [H1 H5 H6]
    · isplitl [H5]; · iexact H5
      isplitl [H1]; · iexact H1
      iexact H6
    isplitl [H2]
    · have h := partH_all c fun j => addR (upP V (XL V l) l j c) (upP V (XL V l) l j (yd c))
      iapply h; iexact H2
    isplitl [H3]; · iexact H3
    iexact H4

/-! ## A layer's second half -/

theorem up_inj : Function.Injective up := by decide
/-- The blocks the downward products use, and the others. -/
theorem accs_split (c : Dev nD) : accs (F := F) c
    = iprop((bigSep Finset.univ fun j : Fin 4 => accAny c (up j)) ∗ bigSep (Finset.univ \ Finset.univ.map ⟨up, up_inj⟩) (accAny c)) := by
  unfold accs
  rw [bigSep_sdiff_split (Finset.subset_univ (Finset.univ.map ⟨up, up_inj⟩)), bigSep_map]
  rfl

theorem step_tilesO (c : Dev nD) (l : Fin 3) :
    Steps c (recs V κ)
      iprop((slots V c (12 * (l : ℕ) + 8 + 0) ∗ ows c (Ow c (12 * (l : ℕ) + 8 + 0)) ∗ has c hM fullShare (HL V l c))
        ∗ bigSep Finset.univ fun j : Fin 4 => iprop(accAny c (up j) ∗ ready c (.inr (l, j))))
      ([(0 : Fin 4), 1, 2, 3].flatMap (tileO c l))
      iprop((slots V c (12 * (l : ℕ) + 8 + 4) ∗ ows c (Ow c (12 * (l : ℕ) + 8 + 4)) ∗ has c hM fullShare (HL V l c))
        ∗ bigSep Finset.univ fun j : Fin 4 => sent c (.inr (l, j))) :=
  Steps.upto (tileO c l) (fun n => iprop(slots V c (12 * (l : ℕ) + 8 + n) ∗ ows c (Ow c (12 * (l : ℕ) + 8 + n)) ∗ has c hM fullShare (HL V l c)))
    (fun j => iprop(accAny c (up j) ∗ ready c (.inr (l, j)))) (fun j => sent c (.inr (l, j))) _ (by decide) at4 all4 rfl fun j => by
      have h := step_tile V κ c (.inr (l, j))
      rw [actT_inr, num_inr, ← tileO_eq] at h
      exact h

theorem step_finsO (c : Dev nD) (l : Fin 3) :
    Steps c (recs V κ)
      iprop((ows c (Ow c (12 * (l : ℕ) + 8 + 4)) ∗ partD c l (fun j => addV (dnP V (HL V l) l j c) (dnP V (HL V l) l j (xd c))) 0)
        ∗ bigSep Finset.univ fun j : Fin 4 => sent c (.inr (l, j)))
      ([(0 : Fin 4), 1, 2, 3].flatMap (finO l))
      iprop((ows c (Ow c (12 * (l : ℕ) + 8 + 4)) ∗ partD c l (fun j => addV (dnP V (HL V l) l j c) (dnP V (HL V l) l j (xd c))) 4)
        ∗ bigSep Finset.univ fun j : Fin 4 => iprop(accAny c (up j) ∗ done c (.inr (l, j)))) :=
  Steps.upto (finO l) (fun n => iprop(ows c (Ow c (12 * (l : ℕ) + 8 + 4)) ∗ partD c l (fun j => addV (dnP V (HL V l) l j c) (dnP V (HL V l) l j (xd c))) n))
    (fun j => sent c (.inr (l, j))) (fun j => iprop(accAny c (up j) ∗ done c (.inr (l, j)))) _ (by decide) at4 all4 rfl fun j =>
      step_finO V κ c l j (12 * (l : ℕ) + 8 + 4) (by rw [num_inr]; omega) _ rfl

theorem step_halfO (c : Dev nD) (l : Fin 3) :
    Steps c (recs V κ)
      iprop((slots V c (12 * (l : ℕ) + 8) ∗ ows c (Ow c (12 * (l : ℕ) + 8)) ∗ has c hM fullShare (HL V l c))
        ∗ (∃ Y, has c (dst l) fullShare Y) ∗ accs c ∗ bigSep Finset.univ fun j : Fin 4 => ready c (.inr (l, j)))
      ([(0 : Fin 4), 1, 2, 3].flatMap (tileO c l) ++ [(0 : Fin 4), 1, 2, 3].flatMap (finO l))
      iprop((slots V c (12 * ((l : ℕ) + 1)) ∗ ows c (Ow c (12 * ((l : ℕ) + 1))) ∗ has c hM fullShare (HL V l c))
        ∗ has c (dst l) fullShare (XL V ((l : ℕ) + 1) c) ∗ accs c ∗ bigSep Finset.univ fun j : Fin 4 => done c (.inr (l, j))) := by
  rw [accs_split]
  refine Steps.append (((step_tilesO V κ c l).frame iprop((∃ Y, has c (dst l) fullShare Y)
        ∗ bigSep (Finset.univ \ Finset.univ.map ⟨up, up_inj⟩) (accAny c))).conseq ?_ .rfl)
    (((step_finsO V κ c l).frame iprop(slots V c (12 * (l : ℕ) + 8 + 4) ∗ has c hM fullShare (HL V l c)
        ∗ bigSep (Finset.univ \ Finset.univ.map ⟨up, up_inj⟩) (accAny c))).conseq ?_ ?_)
  · rw [bigSep_sep', Nat.add_zero]
    iintro ⟨H1, H2, ⟨H3, H3'⟩, H4⟩
    isplitr [H2 H3']
    · isplitl [H1]; · iexact H1
      isplitl [H3]; · iexact H3
      iexact H4
    isplitl [H2]; · iexact H2
    iexact H3'
  · iintro ⟨⟨⟨H1, H2, H3⟩, H4⟩, H5, H6⟩
    isplitr [H1 H3 H6]
    · isplitr [H4]; swap; · iexact H4
      isplitl [H2]; · iexact H2
      iapply partD_zero; iexact H5
    isplitl [H1]; · iexact H1
    isplitl [H3]; · iexact H3
    iexact H6
  · rw [bigSep_sep', XL_succ V l, show 12 * (l : ℕ) + 8 + 4 = 12 * ((l : ℕ) + 1) by omega]
    iintro ⟨⟨⟨H1, H2⟩, H3, H4⟩, H5, H6, H7⟩
    isplitl [H1 H5 H6]
    · isplitl [H5]; · iexact H5
      isplitl [H1]; · iexact H1
      iexact H6
    isplitl [H2]
    · have h := partD_all c l fun j => addV (dnP V (HL V l) l j c) (dnP V (HL V l) l j (xd c))
      iapply h; iexact H2
    isplitl [H3 H7]
    · isplitl [H3]; · iexact H3
      iexact H7
    iexact H4

/-! ## The layers -/

theorem step_layer (c : Dev nD) (l : Fin 3) {A A' G G' : sProp 𝕄} (hin : A ⊢ iprop(has c (act l) fullShare (XL V l c) ∗ G))
    (hmid : iprop(has c (act l) fullShare (XL V l c) ∗ G) ⊢ iprop((∃ Y, has c (dst l) fullShare Y) ∗ G'))
    (hout : iprop(has c (dst l) fullShare (XL V ((l : ℕ) + 1) c) ∗ G') ⊢ A') :
    Steps c (recs V κ)
      iprop((slots V c (12 * (l : ℕ)) ∗ ows c (Ow c (12 * (l : ℕ))) ∗ A ∗ (∃ Y, has c hM fullShare Y) ∗ accs c)
        ∗ (bigSep Finset.univ fun j : Fin 8 => ready c (.inl (l, j))) ∗ bigSep Finset.univ fun j : Fin 4 => ready c (.inr (l, j)))
      (layer c l)
      iprop((slots V c (12 * ((l : ℕ) + 1)) ∗ ows c (Ow c (12 * ((l : ℕ) + 1))) ∗ A' ∗ (∃ Y, has c hM fullShare Y) ∗ accs c)
        ∗ (bigSep Finset.univ fun j : Fin 8 => done c (.inl (l, j))) ∗ bigSep Finset.univ fun j : Fin 4 => done c (.inr (l, j))) := by
  unfold layer
  rw [List.append_assoc]
  refine Steps.append (((step_halfE V κ c l).frame iprop(G ∗ bigSep Finset.univ fun j : Fin 4 => ready c (.inr (l, j)))).conseq ?_ .rfl)
    (((step_halfO V κ c l).frame iprop(G' ∗ bigSep Finset.univ fun j : Fin 8 => done c (.inl (l, j)))).conseq ?_ ?_)
  · iintro ⟨⟨H1, H2, H3, H4, H5⟩, H6, H7⟩
    ihave H := hin $$ H3
    icases H with ⟨H8, H9⟩
    isplitr [H7 H9]
    · isplitl [H1 H2 H8]
      · isplitl [H1]; · iexact H1
        isplitl [H2]; · iexact H2
        iexact H8
      isplitl [H4]; · iexact H4
      isplitl [H5]; · iexact H5
      iexact H6
    isplitl [H9]; · iexact H9
    iexact H7
  · iintro ⟨⟨⟨H1, H2, H3⟩, H4, H5, H6⟩, H7, H8⟩
    ihave H := hmid $$ [H3 H7]
    · isplitl [H3]; · iexact H3
      iexact H7
    icases H with ⟨H9, H10⟩
    isplitr [H6 H10]
    · isplitl [H1 H2 H4]
      · isplitl [H1]; · iexact H1
        isplitl [H2]; · iexact H2
        iexact H4
      isplitl [H9]; · iexact H9
      isplitl [H5]; · iexact H5
      iexact H8
    isplitl [H10]; · iexact H10
    iexact H6
  · iintro ⟨⟨⟨H1, H2, H3⟩, H4, H5, H6⟩, H7, H8⟩
    isplitr [H6 H8]
    · isplitl [H1]; · iexact H1
      isplitl [H2]; · iexact H2
      isplitl [H4 H7]
      · iapply hout
        isplitl [H4]; · iexact H4
        iexact H7
      isplitl [H3]; · iexists _; iexact H3
      iexact H5
    isplitl [H8]; · iexact H8
    iexact H6

/-- The three buffers of activations before layer `n`. -/
def acts (c : Dev nD) (n : ℕ) : sProp 𝕄 :=
  match n with
  | 0 => iprop(has c xM fullShare (XL V 0 c) ∗ (∃ Y, has c x2M fullShare Y) ∗ (∃ Y, has c oM fullShare Y))
  | 1 => iprop(has c x2M fullShare (XL V 1 c) ∗ has c xM fullShare (XL V 0 c) ∗ (∃ Y, has c oM fullShare Y))
  | 2 => iprop(has c x2M fullShare (XL V 2 c) ∗ has c xM fullShare (XL V 0 c) ∗ (∃ Y, has c oM fullShare Y))
  | _ => iprop(has c oM fullShare (XL V 3 c) ∗ has c xM fullShare (XL V 0 c) ∗ (∃ Y, has c x2M fullShare Y))

theorem step_layer_at (c : Dev nD) (l : Fin 3) :
    Steps c (recs V κ)
      iprop((slots V c (12 * (l : ℕ)) ∗ ows c (Ow c (12 * (l : ℕ))) ∗ acts V c l ∗ (∃ Y, has c hM fullShare Y) ∗ accs c)
        ∗ (bigSep Finset.univ fun j : Fin 8 => ready c (.inl (l, j))) ∗ bigSep Finset.univ fun j : Fin 4 => ready c (.inr (l, j)))
      (layer c l)
      iprop((slots V c (12 * ((l : ℕ) + 1)) ∗ ows c (Ow c (12 * ((l : ℕ) + 1))) ∗ acts V c ((l : ℕ) + 1) ∗ (∃ Y, has c hM fullShare Y) ∗ accs c)
        ∗ (bigSep Finset.univ fun j : Fin 8 => done c (.inl (l, j))) ∗ bigSep Finset.univ fun j : Fin 4 => done c (.inr (l, j))) := by
  match l with
  | 0 =>
    refine step_layer V κ c 0 (A := acts V c 0) (A' := acts V c 1) (G := iprop((∃ Y, has c x2M fullShare Y) ∗ (∃ Y, has c oM fullShare Y)))
      (G' := iprop(has c xM fullShare (XL V 0 c) ∗ (∃ Y, has c oM fullShare Y))) .rfl ?_ .rfl
    show iprop(has c xM fullShare (XL V 0 c) ∗ (∃ Y, has c x2M fullShare Y) ∗ (∃ Y, has c oM fullShare Y))
      ⊢ iprop((∃ Y, has c x2M fullShare Y) ∗ has c xM fullShare (XL V 0 c) ∗ (∃ Y, has c oM fullShare Y))
    iintro ⟨H1, H2, H3⟩
    isplitl [H2]; · iexact H2
    isplitl [H1]; · iexact H1
    iexact H3
  | 1 =>
    refine step_layer V κ c 1 (A := acts V c 1) (A' := acts V c 2) (G := iprop(has c xM fullShare (XL V 0 c) ∗ (∃ Y, has c oM fullShare Y)))
      (G' := iprop(has c xM fullShare (XL V 0 c) ∗ (∃ Y, has c oM fullShare Y))) .rfl ?_ .rfl
    show iprop(has c x2M fullShare (XL V 1 c) ∗ has c xM fullShare (XL V 0 c) ∗ (∃ Y, has c oM fullShare Y))
      ⊢ iprop((∃ Y, has c x2M fullShare Y) ∗ has c xM fullShare (XL V 0 c) ∗ (∃ Y, has c oM fullShare Y))
    iintro ⟨H1, H2, H3⟩
    isplitl [H1]; · iexists _; iexact H1
    isplitl [H2]; · iexact H2
    iexact H3
  | 2 =>
    refine step_layer V κ c 2 (A := acts V c 2) (A' := acts V c 3) (G := iprop(has c xM fullShare (XL V 0 c) ∗ (∃ Y, has c oM fullShare Y)))
      (G' := iprop(has c xM fullShare (XL V 0 c) ∗ (∃ Y, has c x2M fullShare Y))) .rfl ?_ .rfl
    show iprop(has c x2M fullShare (XL V 2 c) ∗ has c xM fullShare (XL V 0 c) ∗ (∃ Y, has c oM fullShare Y))
      ⊢ iprop((∃ Y, has c oM fullShare Y) ∗ has c xM fullShare (XL V 0 c) ∗ (∃ Y, has c x2M fullShare Y))
    iintro ⟨H1, H2, H3⟩
    isplitl [H3]; · iexact H3
    isplitl [H2]; · iexact H2
    iexists _; iexact H1

theorem step_layers (c : Dev nD) :
    Steps c (recs V κ)
      iprop((slots V c (12 * 0) ∗ ows c (Ow c (12 * 0)) ∗ acts V c 0 ∗ (∃ Y, has c hM fullShare Y) ∗ accs c)
        ∗ bigSep Finset.univ fun l : Fin 3 => iprop((bigSep Finset.univ fun j : Fin 8 => ready c (.inl (l, j))) ∗ bigSep Finset.univ fun j : Fin 4 => ready c (.inr (l, j))))
      ([(0 : Fin 3), 1, 2].flatMap (layer c))
      iprop((slots V c (12 * 3) ∗ ows c (Ow c (12 * 3)) ∗ acts V c 3 ∗ (∃ Y, has c hM fullShare Y) ∗ accs c)
        ∗ bigSep Finset.univ fun l : Fin 3 => iprop((bigSep Finset.univ fun j : Fin 8 => done c (.inl (l, j))) ∗ bigSep Finset.univ fun j : Fin 4 => done c (.inr (l, j)))) :=
  Steps.upto (layer c) (fun n => iprop(slots V c (12 * n) ∗ ows c (Ow c (12 * n)) ∗ acts V c n ∗ (∃ Y, has c hM fullShare Y) ∗ accs c))
    (fun l => iprop((bigSep Finset.univ fun j : Fin 8 => ready c (.inl (l, j))) ∗ bigSep Finset.univ fun j : Fin 4 => ready c (.inr (l, j))))
    (fun l => iprop((bigSep Finset.univ fun j : Fin 8 => done c (.inl (l, j))) ∗ bigSep Finset.univ fun j : Fin 4 => done c (.inr (l, j))))
    _ (by decide) at3 all3 rfl fun l => step_layer_at V κ c l

/-! ## The whole body -/

/-- What the body needs besides what it shares with all devices. -/
def before (c : Dev nD) : sProp 𝕄 :=
  iprop((dutyTok ER (barCell (yd c)) 0 false ∗ dutyTok ER (barCell (xd c)) 0 true ∗ atPos ER (barCell c) 0 ∅ 0 ∗ cred (tallyAt (barCell c) () 2))
    ∗ bigSep Finset.univ (chan (F := F) c) ∗ bigSep Finset.univ (landing (F := F) c) ∗ ows c (O₀ c)
    ∗ bigSep Finset.univ (free (F := F) c) ∗ bigSep Finset.univ (src V c)
    ∗ acts V c 0 ∗ (∃ Y, has c hM fullShare Y) ∗ accs c)
/-- What it leaves. -/
def after (c : Dev nD) : sProp 𝕄 :=
  iprop(semVal (barCell c) 0 ∗ bigSep Finset.univ (done (F := F) c) ∗ ows c 0
    ∗ bigSep Finset.univ (free (F := F) c) ∗ acts V c 3 ∗ (∃ Y, has c hM fullShare Y) ∗ accs c)

theorem tiles_split (Φ : Tile → sProp 𝕄) : bigSep Finset.univ Φ
    = iprop((bigSep Finset.univ fun p : Fin 3 × Fin 8 => Φ (.inl p)) ∗ bigSep Finset.univ fun p : Fin 3 × Fin 4 => Φ (.inr p)) :=
  bigSep_univ_sum Φ
theorem tiles_layers (Φ : Tile → sProp 𝕄) : bigSep Finset.univ Φ
    = bigSep Finset.univ fun l : Fin 3 => iprop((bigSep Finset.univ fun j : Fin 8 => Φ (.inl (l, j))) ∗ bigSep Finset.univ fun j : Fin 4 => Φ (.inr (l, j))) := by
  rw [tiles_split, bigSep_univ_prod, bigSep_univ_prod, ← bigSep_sep']

theorem free_all (c : Dev nD) : bigSep Finset.univ (free (F := F) c) = iprop(free c (slot 0) ∗ free c (slot 1) ∗ free c (slot 2)) := by
  rw [show (Finset.univ : Finset (Fin 3)) = insert (slot 0) (insert (slot 1) {slot 2}) by decide, bigSep_insert (by decide), bigSep_insert (by decide), bigSep_singleton]
  rfl
theorem flyN_none (c : Dev nD) (n : ℕ) (h : tileNo n = none) : flyN V c n = free c (slot n) := by unfold flyN; rw [h]
theorem srcs_zero (c : Dev nD) : srcs V c 0 = bigSep Finset.univ (src V c) := by
  unfold srcs; rw [Finset.filter_true_of_mem fun t _ => Nat.zero_le _]

theorem step_body (c : Dev nD) :
    Steps c (recs V κ) (before V c)
      (meet c ++ [startE 0 0 0, startE 0 1 1] ++ [(0 : Fin 3), 1, 2].flatMap (layer c)) (after V c) := by
  unfold before after
  rw [free_all]
  have e0 : startN (F := F) 0 = [startE 0 0 0] := rfl
  have e1 : startN (F := F) 1 = [startE 0 1 1] := rfl
  have s0 := step_startN V c 0 (R := recs V κ)
  have s1 := step_startN V c 1 (R := recs V κ)
  rw [e0] at s0; rw [e1] at s1
  rw [List.append_assoc]
  refine Steps.append (((step_meet V κ c).frame iprop(bigSep Finset.univ (chan (F := F) c)
      ∗ (free c (slot 0) ∗ free c (slot 1) ∗ free c (slot 2)) ∗ srcs V c 0 ∗ acts V c 0 ∗ (∃ Y, has c hM fullShare Y) ∗ accs c)).conseq ?_ .rfl)
    (Steps.append (p := [startE 0 0 0, startE 0 1 1]) (Steps.cons (((s0).frame iprop((semVal (barCell c) 0 ∗ (bigSep Finset.univ fun p : Fin 3 × Fin 8 => landing (yd c) (.inl p))
          ∗ (bigSep Finset.univ fun p : Fin 3 × Fin 4 => landing (xd c) (.inr p))) ∗ ows c (Ow c 0) ∗ bigSep Finset.univ (chan (F := F) c)
      ∗ free c (slot 1) ∗ free c (slot 2) ∗ acts V c 0 ∗ (∃ Y, has c hM fullShare Y) ∗ accs c)).conseq ?_ .rfl)
      ((s1.frame iprop(flyN V c 0 ∗ (semVal (barCell c) 0 ∗ (bigSep Finset.univ fun p : Fin 3 × Fin 8 => landing (yd c) (.inl p))
          ∗ (bigSep Finset.univ fun p : Fin 3 × Fin 4 => landing (xd c) (.inr p))) ∗ ows c (Ow c 0) ∗ bigSep Finset.univ (chan (F := F) c)
      ∗ free c (slot 2) ∗ acts V c 0 ∗ (∃ Y, has c hM fullShare Y) ∗ accs c)).conseq ?_ .rfl))
      (((step_layers V κ c).frame (semVal (barCell c) 0)).conseq ?_ ?_))
  · rw [srcs_zero, tiles_split (landing c)]
    iintro ⟨⟨H1, H2, H3, H4⟩, H5, ⟨H6, H7⟩, H8, H9, H10, H11, H12, H13⟩
    isplitl [H1 H2 H3 H4 H6 H7 H8]
    · isplitr [H8]; swap; · iexact H8
      isplitl [H1]; · iexact H1
      isplitl [H2]; · iexact H2
      isplitl [H3]; · iexact H3
      isplitl [H4]; · iexact H4
      isplitl [H6]; · iexact H6
      iexact H7
    isplitl [H5]; · iexact H5
    isplitl [H9]; · iexact H9
    isplitl [H10]; · iexact H10
    isplitl [H11]; · iexact H11
    isplitl [H12]; · iexact H12
    iexact H13
  · iintro ⟨⟨H1, H2⟩, H3, ⟨H4, H5, H6⟩, H7, H8⟩
    isplitl [H4 H7]
    · isplitl [H4]; · iexact H4
      iexact H7
    isplitl [H1]; · iexact H1
    isplitl [H2]; · iexact H2
    isplitl [H3]; · iexact H3
    isplitl [H5]; · iexact H5
    isplitl [H6]; · iexact H6
    iexact H8
  · iintro ⟨⟨H1, H2⟩, H3, H4, H5, H6, H7⟩
    isplitl [H2 H6]
    · isplitl [H6]; · iexact H6
      iexact H2
    isplitl [H1]; · iexact H1
    isplitl [H3]; · iexact H3
    isplitl [H4]; · iexact H4
    isplitl [H5]; · iexact H5
    iexact H7
  · rw [← tiles_layers (ready c), tiles_split (ready c)]
    rw [tiles_split (chan c)]
    unfold slots
    iintro ⟨⟨H1, H2⟩, H3, ⟨H4, H5, H6⟩, H7, ⟨H8, H9⟩, H10, H11, H12, H13⟩
    isplitr [H4]; swap; · iexact H4
    isplitl [H1 H2 H3 H7 H10 H11 H12 H13]
    · isplitl [H1 H2 H3 H10]
      · isplitl [H3]; · iexact H3
        isplitl [H1]; · iexact H1
        isplitl [H10]; · iexact H10
        iexact H2
      isplitl [H7]; · iexact H7
      isplitl [H11]; · iexact H11
      isplitl [H12]; · iexact H12
      iexact H13
    unfold ready
    rw [bigSep_sep', bigSep_sep']
    isplitl [H5 H8]
    · isplitl [H5]; · iexact H5
      iexact H8
    isplitl [H6]; · iexact H6
    iexact H9
  · rw [← tiles_layers (done c), show 12 * 3 = 36 from rfl, Ow_last]
    unfold slots
    rw [flyN_none V c 36 rfl, flyN_none V c (36 + 1) rfl]
    iintro ⟨⟨⟨⟨H1, H2, H3, -⟩, H4, H5, H6, H7⟩, H8⟩, H9⟩
    isplitl [H9]; · iexact H9
    isplitl [H8]; · iexact H8
    isplitl [H4]; · iexact H4
    isplitl [H1 H2 H3]
    · isplitl [H1]; · iexact H1
      isplitl [H2]; · iexact H2
      iexact H3
    isplitl [H5]; · iexact H5
    isplitl [H6]; · iexact H6
    iexact H7

end Cert.KernelIdeal.Mlp

end
-- ==== Proof.Ideal.Ghost.lean ====
/- What the launch deals out: the exchanges' tokens, positions and records, every device's semaphores
   under the records, the credit of what will arrive. -/
module

public import proofs.«01_k».proof.Proof.Ideal.Body

@[expose] public section

noncomputable section

namespace Cert.KernelIdeal.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (V : Inp F)

/-! ## The semaphores by kind -/

omit [FloatOps F] in
theorem bigSep_cell (Φ : Cell → sProp 𝕄) :
    bigSep Finset.univ Φ = iprop((bigSep Finset.univ fun p : Bool × Tile => Φ (some p)) ∗ Φ none) := by
  rw [bigSep_univ_equiv (Equiv.optionEquivSumPUnit.{0} (Bool × Tile)).symm Φ, bigSep_univ_sum,
    bigSep_univ_eq_bigSepL [PUnit.unit] (by decide) (by decide), bigSepL_singleton]
  rfl
omit [FloatOps F] in
theorem bigSep_ends (Φ : Bool × Tile → sProp 𝕄) :
    bigSep Finset.univ Φ = iprop((bigSep Finset.univ fun t => Φ (false, t)) ∗ bigSep Finset.univ fun t => Φ (true, t)) := by
  rw [bigSep_univ_prod, bigSep_univ_eq_bigSepL [false, true] (by decide) (by decide), bigSepL_cons_cons, bigSepL_singleton]
  rfl
omit [FloatOps F] in
theorem bigSep_bool (Φ : Bool → sProp 𝕄) : bigSep Finset.univ Φ = iprop(Φ false ∗ Φ true) := by
  rw [bigSep_univ_eq_bigSepL [false, true] (by decide) (by decide), bigSepL_cons_cons, bigSepL_singleton]
  rfl

/-- The kernel's own semaphores: the weight slots', and every tile's two. -/
def osem (k : Fin 3 ⊕ (Bool × Tile)) : SemLoc sig := Sum.elim (fun s => .dma (wS s).sem) (fun p => csem (some p)) k

theorem ws_ne (s : Fin 3) : ∀ p : Bool × Tile, csem (some p) ≠ .dma (wS s).sem := by revert s; decide +kernel
theorem ws_injective : ∀ s s' : Fin 3, (SemLoc.dma (wS s).sem : SemLoc sig) = .dma (wS s').sem → s = s' := by decide +kernel
theorem osem_scoped : ∀ k, (osem k).isScoped .tc = true := by decide +kernel
theorem osem_staged : ∀ k w s, osem k ≠ .dma ((cfg0.spec w).sem s) := by decide +kernel
theorem ownSemFacts : Pipeline.OwnSemFacts cfg0.spec osem where
  isScoped := osem_scoped
  inj := by
    rintro (s | p) (s' | p') h
    · exact congrArg Sum.inl (ws_injective s s' h)
    · exact absurd h.symm (ws_ne s p')
    · exact absurd h (ws_ne s' p)
    · exact congrArg Sum.inr (Option.some.inj (csem_injective h))
  disj := osem_staged

omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun s : Fin 3 => semVal (wsCell c s) 0) ∗ bigSep Finset.univ fun p : Bool × Tile => semVal (kcell (c, some p)) 0) := by
  unfold Pipeline.ownSems0; rw [bigSep_univ_sum]; rfl
omit [FloatOps F] in
theorem unscopedSems0_eq (c : Dev nD) : (unscopedSems0 c : sProp 𝕄) = semVal (barCell c) 0 := by
  unfold unscopedSems0; rw [bigSep_eq_bigSepL_of_eq [SemLoc.reg barS.sem] (by decide +kernel) (by decide)]; rfl

omit [FloatOps F] in
theorem sems0_cells (c : Dev nD) :
    iprop(Pipeline.ownSems0 (Ix := Unit) (Name := ℕ) (U := UU) (Lvl := ℕ) (Val := Elt F) (τ := τ) osem c ∗ unscopedSems0 c)
      ⊢ iprop((bigSep Finset.univ fun k : Cell => semVal (kcell (c, k)) 0) ∗ (bigSep Finset.univ fun s : Fin 3 => semVal (wsCell c s) 0) : sProp 𝕄) := by
  rw [ownSems0_eq, unscopedSems0_eq, bigSep_cell]
  iintro ⟨⟨HW, HE⟩, HB⟩
  isplitr [HW]
  · isplitl [HE]; · iexact HE
    iexact HB
  iexact HW

/-! ## The tokens -/

def cellsAll : Finset (GSem nD τ sig) := Finset.univ.map ⟨kcell, kcell_injective⟩

/-- A device's duties as minted: its barrier's two, one of each of its tiles' two semaphores. -/
def tokOf (p : Dev nD × (Bool ⊕ (Bool × Tile))) : GSem nD τ sig × ℕ × Bool :=
  (kcell (p.1, Sum.elim (fun _ => none) some p.2), 0, Sum.elim id (fun _ => false) p.2)
theorem tokOf_injective : Function.Injective tokOf := by
  rintro ⟨c, k⟩ ⟨c', k'⟩ h
  have h1 := kcell_injective (congrArg Prod.fst h)
  have h2 := congrArg (fun x : GSem nD τ sig × ℕ × Bool => x.2.2) h
  cases (congrArg Prod.fst h1 : c = c')
  rcases k with b | p <;> rcases k' with b' | p'
  · exact congrArg (fun b => (c, Sum.inl b)) (show b = b' from h2)
  · exact nomatch (congrArg Prod.snd h1 : (none : Cell) = some p')
  · exact nomatch (congrArg Prod.snd h1 : (some p : Cell) = none)
  · exact congrArg (fun p => (c, Sum.inr p)) (Option.some.inj (congrArg Prod.snd h1 : (some p : Cell) = some p'))
def toksAll : Finset (GSem nD τ sig × ℕ × Bool) := Finset.univ.map ⟨tokOf, tokOf_injective⟩

def u₀ : UU :=
  (initOf (Pipeline.cells cfgs cellOf_inj) (Pipeline.launchToks cfgs cellOf_inj), (initOf cellsAll toksAll, 1))

omit [FloatOps F] in
theorem u₀_split : (ownU u₀ : sProp 𝕄)
    ⊢ iprop(BI.own (EP (initOf (Pipeline.cells cfgs cellOf_inj) (Pipeline.launchToks cfgs cellOf_inj))) ∗ BI.own (ER (initOf cellsAll toksAll))) :=
  BI.own_op_elim ((uEmb (nD := nD) (sig := sig) (Ix := Unit) (Val := Elt F) (Name := ℕ) (U := UU) (Lvl := ℕ)).toEmb.op_of_mem
    (Prod.mk_mem_op (URA.mem_op_one _) (URA.mem_one_op (initOf cellsAll toksAll, (1 : Counters)))))

/-- The tokens of device `c`'s own semaphores, and those it pays with. -/
def toks (c : Dev nD) : sProp 𝕄 :=
  iprop((dutyTok ER (barCell c) 0 false ∗ dutyTok ER (barCell c) 0 true)
    ∗ (bigSep Finset.univ fun t => dutyTok ER (sndCell c t) 0 false) ∗ bigSep Finset.univ fun t => dutyTok ER (rcvCell c t) 0 false)
def payToks (c : Dev nD) : sProp 𝕄 :=
  iprop((dutyTok ER (barCell (yd c)) 0 false ∗ dutyTok ER (barCell (xd c)) 0 true)
    ∗ (bigSep Finset.univ fun t => dutyTok ER (sndCell c t) 0 false) ∗ bigSep Finset.univ fun t => dutyTok ER (rcvCell (pr t c) t) 0 false)

/-- What the launch element deals device `c`. -/
def G (c : Dev nD) : sProp 𝕄 :=
  iprop((bigSep Finset.univ fun k : Cell => roundState ER (sch V) (kcell (c, k)) 0)
    ∗ ((bigSep Finset.univ fun k : Cell => atPos ER (kcell (c, k)) 0 ∅ 0) ∗ bigSep Finset.univ fun k : Cell => reached ER (kcell (c, k)) 0) ∗ toks c)

theorem cells_by (Φ : GSem nD τ sig → sProp 𝕄) :
    bigSep cellsAll Φ = bigSep Finset.univ fun c : Dev nD => bigSep Finset.univ fun k : Cell => Φ (kcell (c, k)) := by
  unfold cellsAll; rw [bigSep_map, bigSep_univ_prod]; rfl
theorem toks_by : bigSep toksAll (fun x => (dutyTok ER x.1 x.2.1 x.2.2 : sProp 𝕄)) = bigSep Finset.univ fun c : Dev nD => toks c := by
  unfold toksAll; rw [bigSep_map, bigSep_univ_prod]
  refine bigSep_congr fun c _ => ?_
  unfold toks; rw [bigSep_univ_sum, bigSep_ends, bigSep_bool]; rfl

theorem fund_all : BI.own (ER (initOf cellsAll toksAll)) ⊢ (|==> bigSep Finset.univ (G V) : sProp 𝕄) := by
  iintro HX
  imod (Rounds.fund ER (sch V) cellsAll toksAll) $$ HX with ⟨Hst, Hr, Hat, Htok⟩
  imodintro
  ihave Hst' := (Entails.of_eq (cells_by fun g => roundState ER (sch V) g 0)) $$ Hst
  ihave Hat' := (Entails.of_eq (cells_by fun g => atPos ER g 0 ∅ 0)) $$ Hat
  ihave Hr' := (Entails.of_eq (cells_by fun g => reached ER g 0)) $$ Hr
  ihave Htok' := (Entails.of_eq toks_by) $$ Htok
  unfold G; simp only [bigSep_sep']
  isplitl [Hst']; · iexact Hst'
  isplitl [Hat' Hr']
  · isplitl [Hat']; · iexact Hat'
    iexact Hr'
  iexact Htok'

/-! ## The records -/

/-- The records without the levels. -/
def book (κ : Dev nD × Cell → ℕ) : sProp 𝕄 :=
  iprop((bigSep Finset.univ fun p : Dev nD × Cell => cellInv ER (sch V) (κ p) (kcell p))
    ∗ bigSep Finset.univ fun p : Dev nD × Cell => reached ER (kcell p) 0)

instance book_persistent (κ : Dev nD × Cell → ℕ) : BI.Persistent (book V κ) := by unfold book; infer_instance

theorem recs_of_book (κ : Dev nD × Cell → ℕ) : iprop(book V κ ∗ levAts L lv) ⊢ recs V κ := by
  unfold book recs
  iintro ⟨⟨H1, H2⟩, H3⟩
  isplitl [H1]; · iexact H1
  isplitl [H2]; · iexact H2
  iexact H3

/-- What device `c` has alone: its positions, the tokens it pays with, its weight slots' semaphores. -/
def mine (c : Dev nD) : sProp 𝕄 :=
  iprop((bigSep Finset.univ fun k : Cell => atPos ER (kcell (c, k)) 0 ∅ 0) ∗ payToks c ∗ bigSep Finset.univ fun s : Fin 3 => semVal (wsCell c s) 0)
def G' (c : Dev nD) : sProp 𝕄 := iprop(∃ κ, book V κ ∗ mine c)

theorem dev_alloc (c : Dev nD) :
    iprop(Pipeline.ownSems0 (Ix := Unit) (Name := ℕ) (U := UU) (Lvl := ℕ) (Val := Elt F) (τ := τ) osem c ∗ unscopedSems0 c ∗ G V c)
      ⊢ |={Set.univ}=> iprop((bigSep Finset.univ fun k : Cell => iprop(∃ κ : ℕ, cellInv ER (sch V) κ (kcell (c, k))))
          ∗ (bigSep Finset.univ fun k : Cell => reached ER (kcell (c, k)) 0)
          ∗ (bigSep Finset.univ fun k : Cell => atPos ER (kcell (c, k)) 0 ∅ 0) ∗ toks c ∗ bigSep Finset.univ fun s : Fin 3 => semVal (wsCell c s) 0) := by
  unfold G
  iintro ⟨Hos, Hus, Hst, ⟨Hat, Hr⟩, Htok⟩
  ihave Hv := (sems0_cells (F := F) c) $$ [Hos Hus]
  · isplitl [Hos]; · iexact Hos
    iexact Hus
  icases Hv with ⟨Hv, Hw⟩
  imod (show iprop((bigSep Finset.univ fun k : Cell => semVal (kcell (c, k)) 0) ∗ bigSep Finset.univ fun k : Cell => roundState ER (sch V) (kcell (c, k)) 0)
      ⊢ (|={Set.univ}=> bigSep Finset.univ fun k => iprop(∃ κ : ℕ, cellInv ER (sch V) κ (kcell (c, k))) : sProp 𝕄) from by
        rw [← bigSep_sep']
        exact (bigSep_mono fun k _ => (Rounds.body_intro ER (sch V) (kcell (c, k))).trans inv_alloc).trans (bigSep_fupd _ _)) $$ [Hv Hst] with Hinv
  · isplitl [Hv]; · iexact Hv
    iexact Hst
  imodintro
  isplitl [Hinv]; · iexact Hinv
  isplitl [Hr]; · iexact Hr
  isplitl [Hat]; · iexact Hat
  isplitl [Htok]; · iexact Htok
  iexact Hw

/-- A map of the devices that undoes itself. -/
def swap (f : Dev nD → Dev nD) (h : ∀ c, f (f c) = c) : Dev nD ≃ Dev nD := ⟨f, f, h, h⟩

/-- The tokens dealt to who pays with them. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep',
    bigSep_univ_equiv (swap yd yd_yd) (fun c : Dev nD => (dutyTok ER (barCell c) 0 false : sProp 𝕄)),
    bigSep_univ_equiv (swap xd xd_xd) (fun c : Dev nD => (dutyTok ER (barCell c) 0 true : sProp 𝕄)),
    bigSep_univ_comm (fun (c : Dev nD) (t : Tile) => (dutyTok ER (rcvCell c t) 0 false : sProp 𝕄)),
    bigSep_univ_comm (fun (c : Dev nD) (t : Tile) => (dutyTok ER (rcvCell (pr t c) t) 0 false : sProp 𝕄)),
    bigSep_congr (s := Finset.univ) (fun (t : Tile) _ => bigSep_univ_equiv (swap (pr t) (pr_pr t)) (fun c : Dev nD => (dutyTok ER (rcvCell c t) 0 false : sProp 𝕄)))]
  exact Entails.of_eq rfl

theorem regroup :
    (bigSep Finset.univ fun c : Dev nD => iprop((bigSep Finset.univ fun k : Cell => iprop(∃ κ : ℕ, cellInv ER (sch V) κ (kcell (c, k))))
          ∗ (bigSep Finset.univ fun k : Cell => reached ER (kcell (c, k)) 0)
          ∗ (bigSep Finset.univ fun k : Cell => atPos ER (kcell (c, k)) 0 ∅ 0) ∗ toks c ∗ bigSep Finset.univ fun s : Fin 3 => semVal (wsCell c s) 0) : sProp 𝕄)
      ⊢ bigSep Finset.univ (G' V) := by
  rw [bigSep_sep', bigSep_sep', bigSep_sep', bigSep_sep',
    ← bigSep_univ_prod (fun p : Dev nD × Cell => iprop(∃ κ : ℕ, cellInv ER (sch V) κ (kcell p))),
    ← bigSep_univ_prod (fun p : Dev nD × Cell => (reached ER (kcell p) 0 : sProp 𝕄))]
  iintro ⟨HI, #HR, Hat, Htok, Hw⟩
  ihave HK := (BI.bigSep_exists_pi Finset.univ (fun (p : Dev nD × Cell) (κ : ℕ) => (cellInv ER (sch V) κ (kcell p) : sProp 𝕄))) $$ HI
  icases HK with ⟨%κ, #HI⟩
  ihave Htk := toks_around $$ Htok
  have h : iprop(book V κ ∗ bigSep Finset.univ fun c : Dev nD => (mine c : sProp 𝕄)) ⊢ bigSep Finset.univ (G' V) :=
    bigSep_with_persistent fun c _ => by unfold G'; iintro H; iexists κ; iexact H
  iapply h
  isplitr
  · unfold book; isplitl; · iexact HI
    iexact HR
  · unfold mine; simp only [bigSep_sep']
    isplitl [Hat]; · iexact Hat
    isplitl [Htk]; · iexact Htk
    iexact Hw

theorem glob : (bigSep Finset.univ fun c => iprop(Pipeline.ownSems0 (Ix := Unit) (Name := ℕ) (U := UU) (Lvl := ℕ) (Val := Elt F) (τ := τ) osem c ∗ unscopedSems0 c ∗ G V c) : sProp 𝕄)
    ⊢ |={Set.univ}=> bigSep Finset.univ (G' V) :=
  ((bigSep_mono fun c _ => dev_alloc V c).trans (bigSep_fupd _ _)).trans (BI.fupd_mono (regroup V))

end Cert.KernelIdeal.Mlp

end
-- ==== Proof.Ideal.Credits.lean ====
/- What the devices owe one another at the start, as the credit each has. -/
module

public import proofs.«01_k».proof.Proof.Ideal.Ghost

@[expose] public section

noncomputable section

namespace Cert.KernelIdeal.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

theorem cell_eq_iff {a b : Dev nD} {k k' : Cell} : Iff (kcell (a, k) = kcell (b, k')) (a = b ∧ k = k') :=
  ⟨fun h => ⟨congrArg Prod.fst (kcell_injective h), congrArg Prod.snd (kcell_injective h)⟩, fun h => by rw [h.1, h.2]⟩

theorem tally_cell (a b : Dev nD) (k k' : Cell) (n : ℕ) :
    (tallyAt (kcell (a, k)) () n : CellTallies nD τ sig Unit) (kcell (b, k')) () = if a = b ∧ k = k' then n else 0 := by
  rw [tallyAt_apply]
  by_cases h : a = b ∧ k = k'
  · rw [if_pos h, if_pos ⟨(cell_eq_iff.mpr h).symm, rfl⟩]
  · rw [if_neg h, if_neg fun h' => h (cell_eq_iff.mp h'.1.symm)]

theorem Ow_cell (d c : Dev nD) (k : Cell) :
    Ow d 0 (kcell (c, k)) () = ∑ u : Tile, if pr u d = c ∧ (some (true, u) : Cell) = k then N else 0 := by
  unfold Ow
  rw [Finset.filter_true_of_mem fun t _ => Nat.zero_le _, Finset.sum_apply, Finsupp.finset_sum_apply]
  exact Finset.sum_congr rfl fun u _ => tally_cell (pr u d) c (some (true, u)) k N
theorem Ow_bar (d c : Dev nD) : Ow d 0 (barCell c) () = 0 :=
  (Ow_cell d c none).trans (Finset.sum_eq_zero fun u _ => if_neg fun h => nomatch h.2)
theorem Ow_rcv (d c : Dev nD) (t : Tile) : Ow d 0 (rcvCell c t) () = if pr t d = c then N else 0 := by
  refine (Ow_cell d c (some (true, t))).trans ?_
  rw [Finset.sum_eq_single t (fun u _ hu => if_neg fun h => hu (congrArg (fun p : Bool × Tile => p.2) (Option.some.inj h.2))) fun h => absurd (Finset.mem_univ t) h]
  by_cases h : pr t d = c
  · rw [if_pos h, if_pos ⟨h, rfl⟩]
  · rw [if_neg h, if_neg fun h' => h h'.1]

theorem owed_bar (d c : Dev nD) : O₀ d (barCell c) () = (if xd d = c then 1 else 0) + (if yd d = c then 1 else 0) := by
  unfold O₀ O₁
  rw [Pi.add_apply, Finsupp.add_apply, Pi.add_apply, Finsupp.add_apply, Ow_bar, Nat.zero_add]
  have hb : ∀ e : Dev nD, (tallyAt (barCell e) () 1 : CellTallies nD τ sig Unit) (barCell c) () = if e = c then 1 else 0 := fun e => by
    refine (tally_cell e c none none 1).trans ?_
    by_cases h : e = c
    · rw [if_pos h, if_pos ⟨h, rfl⟩]
    · rw [if_neg h, if_neg fun h' => h h'.1]
  rw [hb, hb]
theorem owed_rcv (d c : Dev nD) (t : Tile) : O₀ d (rcvCell c t) () = if pr t d = c then N else 0 := by
  unfold O₀ O₁
  have hb : ∀ e : Dev nD, (tallyAt (barCell e) () 1 : CellTallies nD τ sig Unit) (rcvCell c t) () = 0 := fun e =>
    (tally_cell e c none (some (true, t)) 1).trans (if_neg fun h => nomatch h.2)
  rw [Pi.add_apply, Finsupp.add_apply, Pi.add_apply, Finsupp.add_apply, hb, hb, Nat.add_zero, Ow_rcv]

/-- One device is sent to `c` by a map that undoes itself. -/
theorem sum_swap (f : Dev nD → Dev nD) (h : ∀ c, f (f c) = c) (c : Dev nD) (n : ℕ) : (∑ d : Dev nD, if f d = c then n else 0) = n := by
  rw [Finset.sum_eq_single (f c) (fun d _ hd => if_neg fun hc => hd (by rw [← hc, h])) fun hn => absurd (Finset.mem_univ _) hn, if_pos (h c)]

omit [FloatOps F] in
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    sum_swap xd xd_xd, sum_swap yd yd_yd]
omit [FloatOps F] in
theorem launch_rcv (c : Dev nD) (t : Tile) :
    tallyOn (rcvCell c t) (launchCredit (Pipeline.owing O₀) 0 (rcvCell c t)) = (tallyAt (rcvCell c t) () N : CellTallies nD τ sig Unit) := by
  unfold tallyAt; refine congrArg _ (Finsupp.ext fun u => ?_); cases u
  rw [Pipeline.launchCredit_owing, Finsupp.single_eq_same, Finset.sum_congr rfl fun d _ => owed_rcv d c t, sum_swap (pr t) (pr_pr t)]

omit [FloatOps F] in
theorem creds (c : Dev nD) :
    (Pipeline.launchCred O₀ c : sProp 𝕄) ⊢ iprop(cred (tallyAt (barCell c) () 2) ∗ bigSep Finset.univ fun t => cred (tallyAt (rcvCell c t) () N)) := by
  unfold Pipeline.launchCred
  have h := bigSep_image_of_injOn (f := csem) (s := Finset.univ) (fun a _ b _ h => csem_injective h)
    (fun sm : SemLoc sig => (cred (tallyOn ((c.tc : Thread nD τ), sm) (launchCredit (Pipeline.owing O₀) 0 ((c.tc : Thread nD τ), sm))) : sProp 𝕄))
  rw [bigSep_cell, bigSep_ends] at h
  have h1 : ∀ t : Tile, (cred (tallyOn ((c.tc : Thread nD τ), csem (some (true, t))) (launchCredit (Pipeline.owing O₀) 0 ((c.tc : Thread nD τ), csem (some (true, t))))) : sProp 𝕄)
      = cred (tallyAt (rcvCell c t) () N) := fun t => congrArg cred (launch_rcv c t)
  have h2 : (cred (tallyOn ((c.tc : Thread nD τ), csem none) (launchCredit (Pipeline.owing O₀) 0 ((c.tc : Thread nD τ), csem none))) : sProp 𝕄)
      = cred (tallyAt (barCell c) () 2) := congrArg cred (launch_bar c)
  rw [bigSep_congr (s := Finset.univ) fun (t : Tile) _ => h1 t, h2] at h
  refine (bigSep_subset (Finset.subset_univ (Finset.univ.image csem))).trans ((Entails.of_eq h).trans ?_)
  iintro ⟨⟨-, H1⟩, H2⟩
  isplitl [H2]; · iexact H2
  iexact H1

/-- What the exchanges start from. -/
def kit (c : Dev nD) : sProp 𝕄 :=
  iprop((dutyTok ER (barCell (yd c)) 0 false ∗ dutyTok ER (barCell (xd c)) 0 true ∗ atPos ER (barCell c) 0 ∅ 0 ∗ cred (tallyAt (barCell c) () 2))
    ∗ bigSep Finset.univ (chan c))

theorem kit_intro (c : Dev nD) :
    iprop(mine c ∗ Pipeline.launchCred O₀ c) ⊢ iprop(kit c ∗ bigSep Finset.univ fun s : Fin 3 => semVal (wsCell c s) 0 : sProp 𝕄) := by
  unfold mine payToks kit
  rw [bigSep_cell, bigSep_ends]
  iintro ⟨⟨⟨⟨Ha1, Ha2⟩, Hab⟩, ⟨⟨Ht1, Ht2⟩, Hts, Htr⟩, Hw⟩, Hc⟩
  ihave Hc' := (creds (F := F) c) $$ Hc
  icases Hc' with ⟨Hcb, Hcr⟩
  isplitr [Hw]
  · isplitl [Ht1 Ht2 Hab Hcb]
    · isplitl [Ht1]; · iexact Ht1
      isplitl [Ht2]; · iexact Ht2
      isplitl [Hab]; · iexact Hab
      iexact Hcb
    · unfold chan; simp only [bigSep_sep']
      isplitl [Hts]; · iexact Hts
      isplitl [Htr]; · iexact Htr
      isplitl [Ha1]; · iexact Ha1
      isplitl [Ha2]; · iexact Ha2
      iexact Hcr
  · iexact Hw

end Cert.KernelIdeal.Mlp

end
-- ==== Proof.Ideal.Split.lean ====
/- Buffers cut into the pieces the kernel works on, and put together again. -/
module

public import proofs.«01_k».proof.Proof.Ideal.Credits

@[expose] public section

noncomputable section

namespace Cert.KernelIdeal.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Any buffer -/

section Any

variable {T : Type} [Fintype T] [DecidableEq T] (ℓ : Loc nD τ sig) (K : T → Finset (Idx ℓ)) (hd : ∀ t t', t ≠ t' → Disjoint (K t) (K t'))
include hd

/-- A buffer along disjoint pieces, and what is in none of them. -/
theorem cut (q : PosShare TreeShare) (f : Buf (Elt F) ℓ) :
    (ℓ ↦{q} f : sProp 𝕄) ⊢ iprop((bigSep Finset.univ fun t => ℓ ↦[K t]{q} f) ∗ ℓ ↦[Finset.univ \ Finset.univ.biUnion K]{q} f) :=
  (pointsTo_split_subset (Finset.subset_univ (Finset.univ.biUnion K))).1.trans
    (sep_mono_left (Entails.of_eq (pointsTo_biUnion _ K fun t _ t' _ h => hd t t' h)))

theorem paste :
    iprop((bigSep Finset.univ fun t => iprop(∃ f, ℓ ↦[K t]{fullShare} f)) ∗ (∃ f, ℓ ↦[Finset.univ \ Finset.univ.biUnion K]{fullShare} f))
      ⊢ (iprop(∃ f : Buf (Elt F) ℓ, ℓ ↦{fullShare} f) : sProp 𝕄) := by
  iintro ⟨H, ⟨%g, Hr⟩⟩
  ihave H' := (BI.bigSep_exists_pi Finset.univ (fun (t : T) (f : Buf (Elt F) ℓ) => (ℓ ↦[K t]{fullShare} f : sProp 𝕄))) $$ H
  icases H' with ⟨%fs, H⟩
  ihave H' := (pointsTo_biUnion_join (Ix := Unit) (Name := ℕ) (U := UU) (Lvl := ℕ) (q := fullShare) Finset.univ K fs g fun t _ t' _ h => hd t t' h) $$ H
  icases H' with ⟨%f, -, H⟩
  ihave H' := (pointsTo_join_subset (Finset.subset_univ (Finset.univ.biUnion K))) $$ [H Hr]
  · isplitl [H]; · iexact H
    iexact Hr
  iexists _; iexact H'

end Any

/-! ## The pieces apart -/

theorem ix_injective : Function.Injective ix := by decide +kernel

theorem slots_apart (s s' : Fin 3) (h : s ≠ s') : Disjoint (slotS s) (slotS s') := by
  unfold slotS
  rw [slotO_set, slotO_set]
  refine Finset.disjoint_left.mpr fun i hi hi' => h (Fin.ext ?_)
  have h0 : (s : ℕ) ≤ (i 0 : ℕ) ∧ (i 0 : ℕ) < (s : ℕ) + 1 := Rect.mem_set_unit.mp hi 0
  have h1 : (s' : ℕ) ≤ (i 0 : ℕ) ∧ (i 0 : ℕ) < (s' : ℕ) + 1 := Rect.mem_set_unit.mp hi' 0
  omega

theorem accB_set (j : Fin 8) : (accB j).view.set = (Rect.unit (s := S8x64x512) ![(j : ℕ), 0, 0] S1x64x512.size (in_acc j)).set :=
  (View.set_reshape _ _).trans (View.set_slice_whole cc0_scratch2 _)
theorem rcvB_set (i : Fin 6) (j : Fin 8) : (rcvB i j).view.set = (Rect.unit (s := S6x8x64x512) ![(i : ℕ), (j : ℕ), 0, 0] S1x1x64x512.size (in_rcv i j)).set :=
  (View.set_reshape _ _).trans (View.set_slice_whole cc0_scratch3 _)

theorem accs_apart (j j' : Fin 8) (h : j ≠ j') : Disjoint (accB j).view.set (accB j').view.set := by
  rw [accB_set, accB_set]
  refine Finset.disjoint_left.mpr fun i hi hi' => h (Fin.ext ?_)
  have h0 : (j : ℕ) ≤ (i 0 : ℕ) ∧ (i 0 : ℕ) < (j : ℕ) + 1 := Rect.mem_set_unit.mp hi 0
  have h1 : (j' : ℕ) ≤ (i 0 : ℕ) ∧ (i 0 : ℕ) < (j' : ℕ) + 1 := Rect.mem_set_unit.mp hi' 0
  omega

theorem rcvs_apart (t t' : Tile) (h : t ≠ t') : Disjoint (rcvT t).view.set (rcvT t').view.set := by
  rw [rcvB_set, rcvB_set]
  refine Finset.disjoint_left.mpr fun i hi hi' => h (ix_injective (Prod.ext (Fin.ext ?_) (Fin.ext ?_)))
  · have h0 : ((ix t).1 : ℕ) ≤ (i 0 : ℕ) ∧ (i 0 : ℕ) < ((ix t).1 : ℕ) + 1 := Rect.mem_set_unit.mp hi 0
    have h1 : ((ix t').1 : ℕ) ≤ (i 0 : ℕ) ∧ (i 0 : ℕ) < ((ix t').1 : ℕ) + 1 := Rect.mem_set_unit.mp hi' 0
    omega
  · have h0 : ((ix t).2 : ℕ) ≤ (i 1 : ℕ) ∧ (i 1 : ℕ) < ((ix t).2 : ℕ) + 1 := Rect.mem_set_unit.mp hi 1
    have h1 : ((ix t').2 : ℕ) ≤ (i 1 : ℕ) ∧ (i 1 : ℕ) < ((ix t').2 : ℕ) + 1 := Rect.mem_set_unit.mp hi' 1
    omega

theorem rWI_apart (j j' : Fin 8) (h : j ≠ j') : Disjoint (rWI j).set (rWI j').set := by
  refine Finset.disjoint_left.mpr fun i hi hi' => h (Fin.ext ?_)
  have h0 : (j : ℕ) * 512 ≤ (i 1 : ℕ) ∧ (i 1 : ℕ) < (j : ℕ) * 512 + 512 := Rect.mem_set_unit.mp hi 1
  have h1 : (j' : ℕ) * 512 ≤ (i 1 : ℕ) ∧ (i 1 : ℕ) < (j' : ℕ) * 512 + 512 := Rect.mem_set_unit.mp hi' 1
  omega
theorem rWO_apart (j j' : Fin 4) (h : j ≠ j') : Disjoint (rWO j).set (rWO j').set := by
  refine Finset.disjoint_left.mpr fun i hi hi' => h (Fin.ext ?_)
  have h0 : (j : ℕ) * 512 ≤ (i 1 : ℕ) ∧ (i 1 : ℕ) < (j : ℕ) * 512 + 512 := Rect.mem_set_unit.mp hi 1
  have h1 : (j' : ℕ) * 512 ≤ (i 1 : ℕ) ∧ (i 1 : ℕ) < (j' : ℕ) * 512 + 512 := Rect.mem_set_unit.mp hi' 1
  omega

/-! ## The kernel's scratch buffers -/

omit [FloatOps F] in
theorem piece_any (ℓ : Loc nD τ sig) (S : Finset (Idx ℓ)) (f : Buf (Elt F) ℓ) :
    (ℓ ↦[S]{fullShare} f : sProp 𝕄) ⊢ iprop(∃ f, ℓ ↦[S]{fullShare} f) := by
  iintro H; iexists f; iexact H
omit [FloatOps F] in
theorem any_intro (c : Dev nD) {sp : Space} {s : Shape} {e : EltTy} (M : Memref sig .tc sp s e) (f : Buf (Elt F) (M.view.loc (c : Thread nD τ))) :
    (M.view.loc (c : Thread nD τ) ↦[M.view.set]{fullShare} f : sProp 𝕄) ⊢ iprop(∃ X, has c M fullShare X) := by
  iintro H; iexists _; iapply (held_intro c M); iexact H
omit [FloatOps F] in
theorem any_of (c : Dev nD) {sp : Space} {s : Shape} {e : EltTy} (M : Memref sig .tc sp s e) :
    (iprop(∃ X, has c M fullShare X) : sProp 𝕄) ⊢ iprop(∃ f, M.view.loc (c : Thread nD τ) ↦[M.view.set]{fullShare} f) := by
  unfold has held; iintro ⟨%X, %f, -, H⟩; iexists f; iexact H

/-- What is left of the weight slots' buffer, of the partial products' and of the landing buffer. -/
def restW (c : Dev nD) : sProp 𝕄 := iprop(∃ f, wM.view.loc (c : Thread nD τ) ↦[Finset.univ \ Finset.univ.biUnion slotS]{fullShare} f)
def restA (c : Dev nD) : sProp 𝕄 := iprop(∃ f, aM.view.loc (c : Thread nD τ) ↦[Finset.univ \ Finset.univ.biUnion fun j => (accB j).view.set]{fullShare} f)
def restR (c : Dev nD) : sProp 𝕄 := iprop(∃ f, rM.view.loc (c : Thread nD τ) ↦[Finset.univ \ Finset.univ.biUnion fun t => (rcvT t).view.set]{fullShare} f)

/-- The weight slots, whatever they hold. -/
def slotsAny (c : Dev nD) : sProp 𝕄 := bigSep Finset.univ fun s => iprop(∃ f, wM.view.loc (c : Thread nD τ) ↦[slotS s]{fullShare} f)

theorem cutW (c : Dev nD) (f : Buf (Elt F) ((c : Thread nD τ).loc cc0_scratch0)) :
    (((c : Thread nD τ).loc cc0_scratch0) ↦{fullShare} f : sProp 𝕄) ⊢ iprop(slotsAny c ∗ restW c) := by
  refine (cut (wM.view.loc (c : Thread nD τ)) slotS slots_apart fullShare f).trans (BI.sep_mono ?_ ?_)
  · unfold slotsAny
    exact bigSep_mono fun s _ => piece_any _ _ f
  · unfold restW; exact piece_any _ _ f
theorem pasteW (c : Dev nD) : iprop(slotsAny c ∗ restW c) ⊢ (iprop(∃ f : Buf (Elt F) ((c : Thread nD τ).loc cc0_scratch0), ((c : Thread nD τ).loc cc0_scratch0) ↦{fullShare} f) : sProp 𝕄) :=
  paste (wM.view.loc (c : Thread nD τ)) slotS slots_apart

theorem cutA (c : Dev nD) (f : Buf (Elt F) ((c : Thread nD τ).loc cc0_scratch2)) :
    (((c : Thread nD τ).loc cc0_scratch2) ↦{fullShare} f : sProp 𝕄) ⊢ iprop(accs c ∗ restA c) := by
  refine (cut (aM.view.loc (c : Thread nD τ)) (fun j => (accB j).view.set) accs_apart fullShare f).trans (BI.sep_mono ?_ ?_)
  · unfold accs
    exact bigSep_mono fun j _ => by unfold accAny; exact any_intro c (accB j) f
  · unfold restA; exact piece_any _ _ f
theorem pasteA (c : Dev nD) : iprop(accs c ∗ restA c) ⊢ (iprop(∃ f : Buf (Elt F) ((c : Thread nD τ).loc cc0_scratch2), ((c : Thread nD τ).loc cc0_scratch2) ↦{fullShare} f) : sProp 𝕄) := by
  refine Entails.trans (sep_mono_left ?_) (paste (aM.view.loc (c : Thread nD τ)) (fun j => (accB j).view.set) accs_apart)
  unfold accs
  exact bigSep_mono fun j _ => by unfold accAny; exact any_of c (accB j)

theorem cutR (c : Dev nD) (f : Buf (Elt F) ((c : Thread nD τ).loc cc0_scratch3)) :
    (((c : Thread nD τ).loc cc0_scratch3) ↦{fullShare} f : sProp 𝕄) ⊢ iprop(bigSep Finset.univ (landing c) ∗ restR c) := by
  refine (cut (rM.view.loc (c : Thread nD τ)) (fun t => (rcvT t).view.set) rcvs_apart fullShare f).trans (BI.sep_mono ?_ ?_)
  · exact bigSep_mono fun t _ => by unfold landing; exact any_intro c (rcvT t) f
  · unfold restR; exact piece_any _ _ f
theorem pasteR (c : Dev nD) : iprop(bigSep Finset.univ (landing c) ∗ restR c) ⊢ (iprop(∃ f : Buf (Elt F) ((c : Thread nD τ).loc cc0_scratch3), ((c : Thread nD τ).loc cc0_scratch3) ↦{fullShare} f) : sProp 𝕄) := by
  refine Entails.trans (sep_mono_left ?_) (paste (rM.view.loc (c : Thread nD τ)) (fun t => (rcvT t).view.set) rcvs_apart)
  exact bigSep_mono fun t _ => by unfold landing; exact any_of c (rcvT t)

/-! ## The weights -/

theorem rWI_cover : (Finset.univ.biUnion fun j => (rWI j).set) = (Finset.univ : Finset S2048x4096.Idx) := by
  refine Finset.eq_univ_iff_forall.mpr fun i => ?_
  have h0 : (i 0 : ℕ) < 2048 := (i 0).isLt
  have h1 : (i 1 : ℕ) < 4096 := (i 1).isLt
  refine Finset.mem_biUnion.mpr ⟨⟨(i 1 : ℕ) / 512, by omega⟩, Finset.mem_univ _, Rect.mem_set_unit.mpr fun a => ?_⟩
  match a with
  | 0 => exact ⟨Nat.zero_le _, (show (i 0 : ℕ) < 0 + 2048 by omega)⟩
  | 1 => exact ⟨(show (i 1 : ℕ) / 512 * 512 ≤ (i 1 : ℕ) by omega), (show (i 1 : ℕ) < (i 1 : ℕ) / 512 * 512 + 512 by omega)⟩
theorem rWO_cover : (Finset.univ.biUnion fun j => (rWO j).set) = (Finset.univ : Finset S4096x2048.Idx) := by
  refine Finset.eq_univ_iff_forall.mpr fun i => ?_
  have h0 : (i 0 : ℕ) < 4096 := (i 0).isLt
  have h1 : (i 1 : ℕ) < 2048 := (i 1).isLt
  refine Finset.mem_biUnion.mpr ⟨⟨(i 1 : ℕ) / 512, by omega⟩, Finset.mem_univ _, Rect.mem_set_unit.mpr fun a => ?_⟩
  match a with
  | 0 => exact ⟨Nat.zero_le _, (show (i 0 : ℕ) < 0 + 4096 by omega)⟩
  | 1 => exact ⟨(show (i 1 : ℕ) / 512 * 512 ≤ (i 1 : ℕ) by omega), (show (i 1 : ℕ) < (i 1 : ℕ) / 512 * 512 + 512 by omega)⟩

theorem cutE (c : Dev nD) (l : Fin 3) (q : PosShare TreeShare) (X : Vec F S2048x4096 .f32) :
    (has c (wIn l) q X : sProp 𝕄) ⊢ bigSep Finset.univ fun j => has c (colE l j) q (colsI X j) :=
  owns_rects (c : Thread nD τ) (wIn l) q rWI (fun _ _ => rfl) rWI_apart rWI_cover X
theorem cutO (c : Dev nD) (l : Fin 3) (q : PosShare TreeShare) (X : Vec F S4096x2048 .f32) :
    (has c (wOut l) q X : sProp 𝕄) ⊢ bigSep Finset.univ fun j => has c (colO l j) q (colsO X j) :=
  owns_rects (c : Thread nD τ) (wOut l) q rWO (fun _ _ => rfl) rWO_apart rWO_cover X

variable (V : Inp F)

/-- The columns of all the weights. -/
theorem srcs_intro (c : Dev nD) :
    iprop((bigSep Finset.univ fun l => has c (wIn l) fullShare.right (V.wi l c)) ∗ bigSep Finset.univ fun l => has c (wOut l) fullShare.right (V.wo l c))
      ⊢ bigSep Finset.univ (src V c) := by
  rw [bigSep_univ_sum, bigSep_univ_prod, bigSep_univ_prod]
  refine BI.sep_mono (bigSep_mono fun l _ => ?_) (bigSep_mono fun l _ => ?_)
  · exact (cutE c l _ _).trans (bigSep_mono fun j _ => Entails.of_eq (src_inl V c (l, j)).symm)
  · exact (cutO c l _ _).trans (bigSep_mono fun j _ => Entails.of_eq (src_inr V c (l, j)).symm)

end Cert.KernelIdeal.Mlp

end
-- ==== Proof.Ideal.Entry.lean ====
/- What a device's kernel is entered with, and what it leaves: the launch's resources in the kernel's own terms. -/
module

public import proofs.«01_k».proof.Proof.Ideal.Split

@[expose] public section

noncomputable section

namespace Cert.KernelIdeal.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (ρ : Dev nD → PrngReg)

/-- The arrays the launch finds, device by device: the activations as the pipeline fetches them, and the weights. -/
def inp : Inp F where
  x c := (win0_0.blk (0 : Fin 1)).view.read (Elt F) (m ((c : Thread nD τ).loc main_arg0))
  wi l c := match l with
    | 0 => m ((c : Thread nD τ).loc main_arg1) | 1 => m ((c : Thread nD τ).loc main_arg3) | 2 => m ((c : Thread nD τ).loc main_arg5)
  wo l c := match l with
    | 0 => m ((c : Thread nD τ).loc main_arg2) | 1 => m ((c : Thread nD τ).loc main_arg4) | 2 => m ((c : Thread nD τ).loc main_arg6)

/-- A share `q` of every weight array of device `c`. -/
def weights (q : PosShare TreeShare) (c : Dev nD) : sProp 𝕄 :=
  iprop((((c : Thread nD τ).loc main_arg1) ↦{q} m ((c : Thread nD τ).loc main_arg1)) ∗ (((c : Thread nD τ).loc main_arg2) ↦{q} m ((c : Thread nD τ).loc main_arg2))
    ∗ (((c : Thread nD τ).loc main_arg3) ↦{q} m ((c : Thread nD τ).loc main_arg3)) ∗ (((c : Thread nD τ).loc main_arg4) ↦{q} m ((c : Thread nD τ).loc main_arg4))
    ∗ (((c : Thread nD τ).loc main_arg5) ↦{q} m ((c : Thread nD τ).loc main_arg5)) ∗ (((c : Thread nD τ).loc main_arg6) ↦{q} m ((c : Thread nD τ).loc main_arg6)))

theorem halve (ℓ : Loc nD τ sig) (f : Buf (Elt F) ℓ) : (ℓ ↦{fullShare} f : sProp 𝕄) ⊢ iprop((ℓ ↦{fullShare.left} f) ∗ ℓ ↦{fullShare.right} f) :=
  (pointsTo_share (PosShare.mem_left_op_right fullShare)).1

theorem weights_halves (c : Dev nD) : weights m fullShare c ⊢ iprop(weights m fullShare.left c ∗ weights m fullShare.right c) := by
  unfold weights
  iintro ⟨H1, H2, H3, H4, H5, H6⟩
  ihave H1 := (halve _ _) $$ H1
  ihave H2 := (halve _ _) $$ H2
  ihave H3 := (halve _ _) $$ H3
  ihave H4 := (halve _ _) $$ H4
  ihave H5 := (halve _ _) $$ H5
  ihave H6 := (halve _ _) $$ H6
  icases H1 with ⟨L1, R1⟩
  icases H2 with ⟨L2, R2⟩
  icases H3 with ⟨L3, R3⟩
  icases H4 with ⟨L4, R4⟩
  icases H5 with ⟨L5, R5⟩
  icases H6 with ⟨L6, R6⟩
  isplitl [L1 L2 L3 L4 L5 L6]
  · isplitl [L1]; · iexact L1
    isplitl [L2]; · iexact L2
    isplitl [L3]; · iexact L3
    isplitl [L4]; · iexact L4
    isplitl [L5]; · iexact L5
    iexact L6
  isplitl [R1]; · iexact R1
  isplitl [R2]; · iexact R2
  isplitl [R3]; · iexact R3
  isplitl [R4]; · iexact R4
  isplitl [R5]; · iexact R5
  iexact R6

/-- A whole array held as its contents. -/
theorem whole_has (c : Dev nD) (b : Ref sig .tc) (q : PosShare TreeShare) (f : Buf (Elt F) ((c : Thread nD τ).loc b)) :
    (((c : Thread nD τ).loc b) ↦{q} f : sProp 𝕄) ⊢ has c (Memref.whole b) q f := by
  unfold has held
  simp only [Memref.view_whole, View.set_whole, View.read_whole]
  iintro H; iexists f; isplitr
  · ipureintro; rfl
  iexact H

omit [FloatOps F] in
theorem bigSep_three (Φ : Fin 3 → sProp 𝕄) : bigSep Finset.univ Φ = iprop(Φ 0 ∗ Φ 1 ∗ Φ 2) :=
  bigSep_univ_eq_bigSepL [0, 1, 2] (by decide) (by decide) Φ

theorem weights_srcs (c : Dev nD) : weights m fullShare.right c ⊢ bigSep Finset.univ (src (inp m) c) := by
  have h := srcs_intro (inp m) c
  rw [bigSep_three, bigSep_three] at h
  unfold weights
  iintro ⟨H1, H2, H3, H4, H5, H6⟩
  iapply h
  isplitl [H1 H3 H5]
  · isplitl [H1]; · iapply (whole_has c main_arg1 fullShare.right (m ((c : Thread nD τ).loc main_arg1))); iexact H1
    isplitl [H3]; · iapply (whole_has c main_arg3 fullShare.right (m ((c : Thread nD τ).loc main_arg3))); iexact H3
    iapply (whole_has c main_arg5 fullShare.right (m ((c : Thread nD τ).loc main_arg5))); iexact H5
  isplitl [H2]; · iapply (whole_has c main_arg2 fullShare.right (m ((c : Thread nD τ).loc main_arg2))); iexact H2
  isplitl [H4]; · iapply (whole_has c main_arg4 fullShare.right (m ((c : Thread nD τ).loc main_arg4))); iexact H4
  iapply (whole_has c main_arg6 fullShare.right (m ((c : Thread nD τ).loc main_arg6))); iexact H6

/-! ## Entry -/

/-- What a device has before its kernel begins, the scratch aside. -/
def start (c : Dev nD) : sProp 𝕄 :=
  iprop((∃ κ, recs (inp m) κ) ∗ kit c ∗ (bigSep Finset.univ fun s : Fin 3 => semVal (wsCell c s) 0) ∗ bigSep Finset.univ (src (inp m) c))

/-- The scratch in no piece. -/
def rests (c : Dev nD) : sProp 𝕄 := iprop(restW c ∗ restA c ∗ restR c)
/-- The scratch the kernel writes anew, whatever it holds. -/
def fresh (c : Dev nD) : sProp 𝕄 := iprop(bigSep Finset.univ (free c) ∗ (∃ Y, has c x2M fullShare Y) ∗ (∃ Y, has c hM fullShare Y) ∗ accs c)

def Φ₀ (c : Dev nD) : sProp 𝕄 :=
  iprop((∃ κ, recs (inp m) κ) ∗ kit c ∗ bigSep Finset.univ (landing c) ∗ bigSep Finset.univ (src (inp m) c) ∗ fresh c ∗ rests c)
def Φ₁ (c : Dev nD) : sProp 𝕄 := iprop(semVal (barCell c) 0 ∗ bigSep Finset.univ (done c) ∗ fresh c ∗ rests c)

theorem rest_eq (c : Dev nD) :
    (Pipeline.unscopedRest (Ix := Unit) (Name := ℕ) (U := UU) (Lvl := ℕ) cfg0.spec c (fun b => m ((c : Thread nD τ).loc b)) : sProp 𝕄) = weights m fullShare c :=
  unscopedRest0_eq c _

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (inp m) c)
      ⊢ |={Set.univ}=> iprop(start m c ∗ weights m fullShare.left c) := by
  rw [Pipeline.unscopedRestP_none, rest_eq]
  unfold G'
  iintro ⟨Hw, Hlev, Hcr, -, ⟨%κ, Hb, Hm⟩⟩
  ihave Hw' := (weights_halves m c) $$ Hw
  icases Hw' with ⟨Hl, Hr⟩
  ihave Hk := (kit_intro c) $$ [Hm Hcr]
  · isplitl [Hm]; · iexact Hm
    iexact Hcr
  icases Hk with ⟨Hk, Hv⟩
  imodintro
  unfold start
  isplitr [Hl]
  · isplitl [Hb Hlev]
    · iexists κ
      iapply (recs_of_book (inp m) κ)
      isplitl [Hb]; · iexact Hb
      iexact Hlev
    isplitl [Hk]; · iexact Hk
    isplitl [Hv]; · iexact Hv
    iapply (weights_srcs m c); iexact Hr
  iexact Hl

theorem free_eq (c : Dev nD) : (bigSep Finset.univ (free c) : sProp 𝕄) = iprop(slotsAny c ∗ bigSep Finset.univ fun s : Fin 3 => semVal (wsCell c s) 0) := by
  unfold free slotsAny; rw [bigSep_sep']

theorem done_eq (c : Dev nD) : (bigSep Finset.univ (done c) : sProp 𝕄)
    = iprop(bigSep Finset.univ (landing c) ∗ bigSep Finset.univ fun p : Bool × Tile => semVal (kcell (c, some p)) 0) := by
  unfold done quiet; rw [bigSep_sep', bigSep_sep', bigSep_ends]; rfl

theorem has_any (c : Dev nD) (b : Ref sig .tc) :
    iprop(∃ f : Buf (Elt F) ((c : Thread nD τ).loc b), ((c : Thread nD τ).loc b) ↦{fullShare} f) ⊢ (iprop(∃ Y, has c (Memref.whole b) fullShare Y) : sProp 𝕄) := by
  iintro ⟨%f, H⟩; iexists f; iapply (whole_has c b fullShare f); iexact H
theorem any_has (c : Dev nD) (b : Ref sig .tc) :
    iprop(∃ Y, has c (Memref.whole b) fullShare Y) ⊢ (iprop(∃ f : Buf (Elt F) ((c : Thread nD τ).loc b), ((c : Thread nD τ).loc b) ↦{fullShare} f) : sProp 𝕄) := by
  unfold has held
  simp only [Memref.view_whole, View.set_whole]
  iintro ⟨%Y, ⟨%f, -, H⟩⟩; iexists f; iexact H

theorem entry (c : Dev nD) : iprop(start m c ∗ Pipeline.scopedRest cfg0.spec c) ⊢ Φ₀ m c := by
  rw [scopedRest0_eq]
  unfold start Φ₀ fresh rests
  rw [free_eq]
  iintro ⟨⟨HR, HK, HV, HS⟩, ⟨%fw, Hw⟩, ⟨%fa, Ha⟩, ⟨%fr, Hr⟩, Hh, Hx⟩
  ihave Hw := (cutW c fw) $$ Hw
  ihave Ha := (cutA c fa) $$ Ha
  ihave Hr := (cutR c fr) $$ Hr
  ihave Hh := (has_any c cc0_scratch6) $$ Hh
  ihave Hx := (has_any c cc0_scratch7) $$ Hx
  icases Hw with ⟨Hw, Hw'⟩
  icases Ha with ⟨Ha, Ha'⟩
  icases Hr with ⟨Hr, Hr'⟩
  isplitl [HR]; · iexact HR
  isplitl [HK]; · iexact HK
  isplitl [Hr]; · iexact Hr
  isplitl [HS]; · iexact HS
  isplitl [Hw HV Hx Hh Ha]
  · isplitl [Hw HV]
    · isplitl [Hw]; · iexact Hw
      iexact HV
    isplitl [Hx]; · iexact Hx
    isplitl [Hh]; · iexact Hh
    iexact Ha
  isplitl [Hw']; · iexact Hw'
  isplitl [Ha']; · iexact Ha'
  iexact Hr'

/-! ## Exit -/

theorem leave (c : Dev nD) : Φ₁ c ⊢ (iprop(unscopedSems0 c ∗ Pipeline.ownSems0 osem c ∗ Pipeline.scopedRest cfg0.spec c) : sProp 𝕄) := by
  rw [scopedRest0_eq, ownSems0_eq, unscopedSems0_eq]
  unfold Φ₁ fresh rests
  rw [free_eq, done_eq]
  iintro ⟨HB, ⟨Hr, HC⟩, ⟨⟨Hw, HV⟩, Hx, Hh, Ha⟩, Hw', Ha', Hr'⟩
  isplitl [HB]; · iexact HB
  isplitl [HV HC]
  · isplitl [HV]; · iexact HV
    iexact HC
  isplitl [Hw Hw']
  · iapply (pasteW c)
    isplitl [Hw]; · iexact Hw
    iexact Hw'
  isplitl [Ha Ha']
  · iapply (pasteA c)
    isplitl [Ha]; · iexact Ha
    iexact Ha'
  isplitl [Hr Hr']
  · iapply (pasteR c)
    isplitl [Hr]; · iexact Hr
    iexact Hr'
  isplitl [Hh]; · iapply (any_has c cc0_scratch6); iexact Hh
  iapply (any_has c cc0_scratch7); iexact Hx

end Cert.KernelIdeal.Mlp

end
-- ==== Proof.Ideal.Run.lean ====
/- The run: from any memory, on every schedule, the four devices' kernels end, the results are the layers' values, the
   arguments are unchanged and every counter is zero. -/
module

public import proofs.«01_k».proof.Proof.Ideal.Entry
public import Idealize.ShloMosaic.Lib.Pipeline.CollectiveSegs
public import Idealize.ShloMosaic.Lib.Quiescent

@[expose] public section

noncomputable section

namespace Cert.KernelIdeal.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (chain Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev s₀ : MemSt nD τ sig (Elt F) := ⟨m, fun _ => 0, ρ⟩

/-- The call's one pass on device `c`: its arrays, what its body leaves, what it is entered with and leaves, what it owes. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => XL (inp m) 0 c
    | ⟨1, _⟩ => XL (inp m) 3 c
  Φ t := match t with
    | ⟨0, _⟩ => Φ₀ m c
    | ⟨_ + 1, _⟩ => Φ₁ c
  q _ := fullShare
  owed t := match t with
    | ⟨0, _⟩ => O₀ c
    | ⟨_ + 1, _⟩ => 0

theorem fetch_0 (t : Fin cfg0.N) : (cfg0.win (0 : Fin 2)).fetch t = true := by rw [fin_N0 t]; rfl

theorem before_x (c : Dev nD) (d : S64x2048.Idx → Elt F .f32) : (dats m ρ 0 c).before (0 : Fin 2) t0_0 d = XL (inp m) 0 c := by
  unfold Dat.before; rw [if_pos (fetch_0 _)]; rfl

/-! ## The body -/

def pre (c : Dev nD) : sProp 𝕄 :=
  iprop(Φ₀ m c ∗ (dats m ρ 0 c).owesAt () t0_0.castSucc
    ∗ (∃ d, has c xM fullShare ((dats m ρ 0 c).before (0 : Fin 2) t0_0 d)) ∗ (∃ d, has c oM fullShare ((dats m ρ 0 c).before (1 : Fin 2) t0_0 d)))
def post (c : Dev nD) : sProp 𝕄 :=
  iprop(Φ₁ c ∗ (dats m ρ 0 c).owesAt () t0_0.succ ∗ has c xM fullShare (XL (inp m) 0 c) ∗ has c oM fullShare (XL (inp m) 3 c))

theorem pre_before (c : Dev nD) : pre m ρ c ⊢ iprop((∃ κ, recs (inp m) κ) ∗ before (inp m) c ∗ rests c) := by
  unfold pre Φ₀ before kit fresh acts Dat.owesAt Pipeline.owesWithin ows
  rw [show (dats m ρ 0 c).owed t0_0.castSucc = O₀ c from rfl]
  simp only [before_x]
  iintro ⟨⟨HR, ⟨HB, HC⟩, HL, HS, ⟨HF, Hx2, Hh, Ha⟩, Hrest⟩, ⟨%W, -, HO⟩, ⟨%d, Hx⟩, ⟨%d', Ho⟩⟩
  isplitl [HR]; · iexact HR
  isplitr [Hrest]
  · isplitl [HB]; · iexact HB
    isplitl [HC]; · iexact HC
    isplitl [HL]; · iexact HL
    isplitl [HO]; · iexists W; iexact HO
    isplitl [HF]; · iexact HF
    isplitl [HS]; · iexact HS
    isplitl [Hx Hx2 Ho]
    · isplitl [Hx]; · iexact Hx
      isplitl [Hx2]; · iexact Hx2
      iexists _; iexact Ho
    isplitl [Hh]; · iexact Hh
    iexact Ha
  iexact Hrest

theorem acts_end (V : Inp F) (c : Dev nD) :
    acts V c 3 = iprop(has c oM fullShare (XL V 3 c) ∗ has c xM fullShare (XL V 0 c) ∗ (∃ Y, has c x2M fullShare Y)) := rfl

theorem after_post (c : Dev nD) : iprop(after (inp m) c ∗ rests c) ⊢ post m ρ c := by
  unfold post Φ₁ after fresh Dat.owesAt Pipeline.owesWithin ows
  rw [show (dats m ρ 0 c).owed t0_0.succ = 0 from rfl, acts_end]
  iintro ⟨⟨HB, HD, ⟨%W, HO⟩, HF, ⟨Ho, Hx, Hx2⟩, Hh, Ha⟩, Hrest⟩
  isplitl [HB HD HF Hx2 Hh Ha Hrest]
  · isplitl [HB]; · iexact HB
    isplitl [HD]; · iexact HD
    isplitr [Hrest]
    · isplitl [HF]; · iexact HF
      isplitl [Hx2]; · iexact Hx2
      isplitl [Hh]; · iexact Hh
      iexact Ha
    iexact Hrest
  isplitl [HO]
  · iexists W
    isplitr; · ipureintro; exact fun _ _ => Or.inl trivial
    iexact HO
  isplitl [Hx]; · iexact Hx
  iexact Ho

theorem sound_body (c : Dev nD) : pre m ρ c ⊢ wpc c (body (F := F)) (fun _ => post m ρ c) := by
  unfold body
  simp only [wpc, Prog.lift, Prog.bind_op, Prog.bind_ret, wp_deviceId]
  refine (pre_before m ρ c).trans ?_
  iintro ⟨⟨%κ, HR⟩, HA, Hrest⟩
  have h := step_body (inp m) κ c [] (fun _ => post m ρ c)
  rw [List.append_nil] at h
  iapply h
  isplitl [HR]; · iexact HR
  isplitl [HA]; · iexact HA
  iintro HB
  simp only [wpc, Pipeline.chain_nil, Prog.pure_eq_ret, wp_ret]
  imodintro
  iapply (after_post m ρ c)
  isplitl [HB]; · iexact HB
  iexact Hrest

theorem row : defs₀ (F := F) .tc cfg0.body (cfg0.bodyArgs t0_0 (cfg0.slots t0_0)) = body := body_eq

set_option maxRecDepth 8000 in
theorem body_obligation (c : Dev nD) : BodyObligation (dats (F := F) m ρ 0 c) (defs₀ (F := F)) 𝒱₀ () Set.univ := fun t => by
  rw [fin_N0 t, bigSep_W0, bigSep_W0, row]
  have h1 : iprop((dats m ρ 0 c).Φ t0_0.castSucc ∗ (dats m ρ 0 c).owesAt () t0_0.castSucc
      ∗ (∃ d, owns (c : Thread nD τ) ((cfg0.win 0).stage (cfg0.slots t0_0 0)) fullShare ((dats m ρ 0 c).before 0 t0_0 d))
      ∗ (∃ d, owns (c : Thread nD τ) ((cfg0.win 1).stage (cfg0.slots t0_0 1)) fullShare ((dats m ρ 0 c).before 1 t0_0 d))) = pre m ρ c := rfl
  have h2 : iprop((dats m ρ 0 c).Φ t0_0.succ ∗ (dats m ρ 0 c).owesAt () t0_0.succ
      ∗ owns (c : Thread nD τ) ((cfg0.win 0).stage (cfg0.slots t0_0 0)) fullShare ((dats m ρ 0 c).after 0 t0_0)
      ∗ owns (c : Thread nD τ) ((cfg0.win 1).stage (cfg0.slots t0_0 1)) fullShare ((dats m ρ 0 c).after 1 t0_0)) = post m ρ c := rfl
  have h := sound_body m ρ c
  rw [← h1, ← h2] at h
  have e0 : cfg0.idle 0 (cfg0.grid.coords t0_0) = false := rfl
  have e1 : cfg0.idle 1 (cfg0.grid.coords t0_0) = false := rfl
  simp only [e0, e1]
  refine Eq.mp ?_ h
  congr 1

/-! ## The launch's conditions -/

theorem share_eq (c : Dev nD) (w : Fin cfg0.W) : (dats m ρ 0 c).share w = fullShare := by unfold Dat.share; split <;> rfl

theorem lv_staged (c : Dev nD) : ∀ (w : Fin cfg0.W) (s : Fin (cfg0.win w).nbuf), lv ((c : Thread nD τ), .dma ((cfg0.win w).sem s)) () = 0 := by
  intro w s; revert c; revert s; revert w; decide +kernel

theorem waits (c : Dev nD) : (levAts L lv : sProp 𝕄) ⊢ Pipeline.cellsWaits cfgs (dats m ρ) () 0 c :=
  Pipeline.cellsWaits_intro cfgs (dats m ρ) () 0 c fun w s t =>
    mayWait c _ 0 (Nat.le_of_eq (lv_staged c w s)) _ (by
      rcases t with ⟨_ | _, ht⟩
      · exact Above.start c
      · exact Above.zero 0)

def wbuf : Fin 6 → Ref sig .tc
  | 0 => main_arg1 | 1 => main_arg2 | 2 => main_arg3 | 3 => main_arg4 | 4 => main_arg5 | 5 => main_arg6

theorem weights_eq (q : PosShare TreeShare) (c : Dev nD) :
    weights m q c = bigSep Finset.univ fun k : Fin 6 => (((c : Thread nD τ).loc (wbuf k)) ↦{q} m ((c : Thread nD τ).loc (wbuf k)) : sProp 𝕄) :=
  (bigSep_univ_eq_bigSepL [(0 : Fin 6), 1, 2, 3, 4, 5] (by decide) (by decide)
    fun k : Fin 6 => (((c : Thread nD τ).loc (wbuf k)) ↦{q} m ((c : Thread nD τ).loc (wbuf k)) : sProp 𝕄)).symm

theorem read_end (c : Dev nD) (s' : Phys nD τ sig (Elt F)) :
    iprop(unscopedSems0 c ∗ weights m fullShare.left c ∗ SI s')
      ⊢ (|={Set.univ}=> iprop(⌜(∀ sm : SemLoc sig, sm.isScoped .tc = false → s'.mem.sem ((c.tc : Thread nD τ), sm) = 0)
          ∧ ∀ k, s'.mem.mem ((c : Thread nD τ).loc (wbuf k)) = m ((c : Thread nD τ).loc (wbuf k))⌝ ∗ SI s') : sProp 𝕄) := by
  rw [weights_eq]
  iintro ⟨Hu, Hw, HSI⟩
  ihave H := (pointsTo_read_all (Ix := Unit) (Name := ℕ) (U := UU) (Lvl := ℕ) Finset.univ (fun k : Fin 6 => (c : Thread nD τ).loc (wbuf k))
    (fun k => m ((c : Thread nD τ).loc (wbuf k))) s' fullShare.left) $$ [Hw HSI]
  · isplitl [Hw]; · iexact Hw
    iexact HSI
  icases H with ⟨%hw, HSI⟩
  have h := Pipeline.unscopedSems0_read (Ix := Unit) (Name := ℕ) (U := UU) (Lvl := ℕ) (Val := Elt F) (X := unscopedSems0 c) (c := c) fupd_intro s'
  imod h $$ [Hu HSI] with ⟨%hs, HSI⟩
  · isplitl [Hu]; · iexact Hu
    iexact HSI
  imodintro
  isplitr
  · ipureintro; exact ⟨hs, fun k => hw k (Finset.mem_univ k)⟩
  iexact HSI

theorem phi0 (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  iintro ⟨Hs, -, Hr⟩
  iapply (entry m c)
  isplitl [Hs]; · iexact Hs
  iexact Hr

theorem phi1 (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl]
  exact leave c

theorem fund : (ownU u₀ : sProp 𝕄)
    ⊢ (|={Set.univ}=> iprop(BI.own (EP (initOf (Pipeline.cells cfgs cellOf_inj) (Pipeline.launchToks cfgs cellOf_inj))) ∗ bigSep Finset.univ (G (inp m))) : sProp 𝕄) := by
  iintro Hu
  ihave H := (u₀_split) $$ Hu
  icases H with ⟨HP, HX⟩
  imod (fund_all (inp m)) $$ HX with HG
  imodintro
  isplitl [HP]; · iexact HP
  iexact HG

/-! ## The run -/

/-- The staged arrays as the run leaves them. -/
def finalA (c : Dev nD) (w : Fin cfg0.W) : Buf (Elt F) ((cfg0.win w).arr.view.loc (c : Thread nD τ)) := (dats m ρ 0 c).arrAt w cfg0.N

def QC (r : PUnit × MemSt nD τ sig (Elt F)) : Prop :=
  ∀ c : Dev nD, (∀ w : Fin cfg0.W, r.2.mem ((cfg0.win w).arr.view.loc (c : Thread nD τ)) = finalA m ρ c w)
    ∧ ∀ k, r.2.mem ((c : Thread nD τ).loc (wbuf k)) = m ((c : Thread nD τ).loc (wbuf k))

set_option maxRecDepth 8000 in
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (inp m)) (G' := G' (inp m)) (u₀ := u₀)
    (hu₀ := fund m)
    (hglob := glob (inp m))
    (hA := fun _ _ => rfl) (hpf := fun _ k => k.elim0)
    (X := start m) (Y := fun c => unscopedSems0 c) (Z := weights m fullShare.left)
    (hX := start_intro m ρ) (hin := phi0 m ρ) (hout := phi1 m ρ)
    (QY := fun c s => (∀ sm : SemLoc sig, sm.isScoped .tc = false → s.sem ((c.tc : Thread nD τ), sm) = 0)
      ∧ ∀ k, s.mem ((c : Thread nD τ).loc (wbuf k)) = m ((c : Thread nD τ).loc (wbuf k)))
    (hY := read_end m)
    (hQ := fun _ h hs => ⟨fun c => ⟨(h c).1, (h c).2.2.2⟩, sem_eq_zero hs fun c => (h c).2.2.1⟩)

/-- The activations' array is as it was. -/
theorem finalA_x (c : Dev nD) : finalA m ρ c (0 : Fin 2) = m ((c : Thread nD τ).loc main_arg0) :=
  (dats (F := F) m ρ 0 c).arrAt_in (0 : Fin 2) rfl _

/-- The result array, read as its one block, is the last layer's value. -/
theorem finalA_o (c : Dev nD) : (win0_1.blk (0 : Fin 1)).view.read (Elt F) (finalA m ρ c (1 : Fin 2)) = XL (inp m) 3 c := by
  unfold finalA
  rw [show cfg0.N = ((0 : Fin 1) : Fin cfg0.N).val + 1 from rfl, (dats m ρ 0 c).arrAt_succ (1 : Fin 2) (0 : Fin 1)]
  rw [show (cfg0.win (1 : Fin 2)).flush (0 : Fin 1) = true from by decide, if_pos rfl]
  exact View.read_write_univ _ _

end Cert.KernelIdeal.Mlp

end
-- ==== Proof.Ideal.Frames.lean ====
/- The frames: every run ends, the arguments as they were and every counter at zero. -/
module

public import proofs.«01_k».proof.Defs
public import proofs.«01_k».proof.Proof.Gen.Kernel
public import proofs.«01_k».proof.Proof.Gen.ReferenceIdeal.Run
public import proofs.«01_k».proof.Proof.Ideal.Run

@[expose] public section

noncomputable section

namespace Cert.KernelIdeal.Mlp

open Cert.KernelIdeal Cert.KernelIdeal.Gen
open Idealize.ShloMosaic Idealize.ShloMosaic.TcCoe
open Idealize.SL Idealize.SL.Sem

variable {F : FTy → Type} [FloatOps F]

/-- At any float values, the arguments are as they were. -/
theorem args_kept (m : (ℓ : Loc nD τ sig) → Buf (Elt F) ℓ) (ρ : Dev nD → PrngReg) (r : PUnit × MemSt nD τ sig (Elt F)) (h : QC m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).1 (0 : Fin 2)).trans (finalA_x m ρ c), (h c).2 0, (h c).2 1, (h c).2 2, (h c).2 3, (h c).2 4, (h c).2 5⟩

theorem frame_run (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨args_kept m ρ r h.1, h.2⟩) (run_main m ρ)

theorem frame_ideal : Cert.quiescent_KernelIdeal (hKernelIdeal := Gen.facts) := fun m ρ _ => frame_run m ρ

/-- The two printed bodies are one text. -/
theorem same_defs₀ : Cert.Kernel.defs₀ (F := F) = Cert.KernelIdeal.defs₀ (F := F) := by
  chain_rfl
theorem same_defs : Cert.Kernel.defs (F := F) = Cert.KernelIdeal.defs (F := F) := by
  show Idealize.ShloMosaic.Pipeline.defs _ _ = _
  rw [same_defs₀]
  rfl

theorem frame_bits : Cert.quiescent_Kernel (hKernel := Cert.Kernel.Gen.facts) := fun m ρ _ => by
  rw [same_defs]
  exact frame_run (F := Bits) m ρ

theorem frame_ref : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.KernelIdeal.Mlp

end
-- ==== Proof.Ideal.Value.lean ====
/- The kernel's result against the plain products: device `c` ends with its block of the columns.

   `cx` and `cy` are a device's places along the two axes of the mesh. A weight array is cut along both its axes,
   the activations along their columns; the hidden activations lie in blocks of columns by `cx`, the layers'
   results by `cy`. -/
module

public import proofs.«01_k».proof.Proof.Ideal.Sums
public import proofs.«01_k».proof.Proof.Ideal.Frames
public import Idealize.ShloMosaic.Lib.StackMember

@[expose] public section

noncomputable section

namespace Cert.KernelIdeal.Mlp

open Cert.KernelIdeal Cert.KernelIdeal.Gen
open Idealize.ShloMosaic Idealize.ShloMosaic.TcCoe
open Idealize.ShloMosaic.ValueIdx Idealize.ShloMosaic.StackMember
open Idealize.SL Idealize.SL.Sem
open scoped BigOperators

/-! ## The mesh -/

/-- A device's place along the first axis of the mesh, and along the second. -/
def cx (c : Dev nD) : Fin 2 := ⟨(c : ℕ) / 2 % 2, Nat.mod_lt _ (by decide)⟩
def cy (c : Dev nD) : Fin 2 := ⟨(c : ℕ) % 2, Nat.mod_lt _ (by decide)⟩

theorem cx_yd (c : Dev nD) : cx (yd c) = cx c := by revert c; decide
theorem cy_yd (c : Dev nD) : cy (yd c) = other (cy c) := by revert c; decide
theorem cx_xd (c : Dev nD) : cx (xd c) = other (cx c) := by revert c; decide
theorem cy_xd (c : Dev nD) : cy (xd c) = cy c := by revert c; decide

theorem lin_x (c : Dev nD) : Layout.meshLin [2, 2] (c : ℕ) [0] = cx c := by revert c; decide
theorem lin_y (c : Dev nD) : Layout.meshLin [2, 2] (c : ℕ) [1] = cy c := by revert c; decide

/-! ## The whole arrays -/

abbrev WX : Shape := ⟨2, ![64, 4096]⟩
abbrev WH : Shape := ⟨2, ![64, 8192]⟩
abbrev WI : Shape := ⟨2, ![4096, 8192]⟩
abbrev WO : Shape := ⟨2, ![8192, 4096]⟩

/-- Element `(r, i)` of device `c`'s block of activations. -/
theorem block_x (c : Dev nD) (A : WX.Idx → EReal) (r : Fin 64) (i : Fin 2048) :
    (Layout.blockN ⟨2, ![64, 2048]⟩ ⟨2, ![64, 4096]⟩ (Layout.meshBlock [2, 2] ![[], [1]] c) A) (ix2 r i) = A (ix2 r (half (cy c) i)) := by
  refine congrArg A (funext fun a => Fin.ext ?_)
  fin_cases a
  · show 0 * 64 + (r : ℕ) = r; omega
  · show Layout.meshLin [2, 2] (c : ℕ) [1] * 2048 + (i : ℕ) = (cy c : ℕ) * 2048 + i
    rw [lin_y]

/-- Element `(i, k)` of device `c`'s block of an upward weight array. -/
theorem block_i (c : Dev nD) (W : WI.Idx → EReal) (i : Fin 2048) (k : Fin 4096) :
    (Layout.blockN ⟨2, ![2048, 4096]⟩ ⟨2, ![4096, 8192]⟩ (Layout.meshBlock [2, 2] ![[1], [0]] c) W) (ix2 i k)
      = W (ix2 (half (cy c) i) (half (cx c) k)) := by
  refine congrArg W (funext fun a => Fin.ext ?_)
  fin_cases a
  · show Layout.meshLin [2, 2] (c : ℕ) [1] * 2048 + (i : ℕ) = (cy c : ℕ) * 2048 + i
    rw [lin_y]
  · show Layout.meshLin [2, 2] (c : ℕ) [0] * 4096 + (k : ℕ) = (cx c : ℕ) * 4096 + k
    rw [lin_x]

/-- Element `(k, i)` of device `c`'s block of a downward weight array. -/
theorem block_o (c : Dev nD) (W : WO.Idx → EReal) (k : Fin 4096) (i : Fin 2048) :
    (Layout.blockN ⟨2, ![4096, 2048]⟩ ⟨2, ![8192, 4096]⟩ (Layout.meshBlock [2, 2] ![[0], [1]] c) W) (ix2 k i)
      = W (ix2 (half (cx c) k) (half (cy c) i)) := by
  refine congrArg W (funext fun a => Fin.ext ?_)
  fin_cases a
  · show Layout.meshLin [2, 2] (c : ℕ) [0] * 4096 + (k : ℕ) = (cx c : ℕ) * 4096 + k
    rw [lin_x]
  · show Layout.meshLin [2, 2] (c : ℕ) [1] * 2048 + (i : ℕ) = (cy c : ℕ) * 2048 + i
    rw [lin_y]

/-! ## The reference's layers -/

/-- A whole layer's hidden activations: the rectified product. -/
def refH (A : Vec Ideal WX .f32) (W : Vec Ideal WI .f32) : Vec Ideal WH .f32 :=
  maximumf (F := Ideal) (φ := .f32)
    (Host.dotGeneral (F := Ideal) (φ₁ := .f32) (φ₂ := .f32) Cert.ReferenceIdeal.dot_S64x4096_S4096x8192_S64x8192_1_0_0_1_n_n none A W)
    (broadcastInDim Cert.ReferenceIdeal.S64x8192 ![] Cert.ReferenceIdeal.Facts₀.bcast_S_S64x8192 (constant Cert.ReferenceIdeal.S_ .f32 0x00000000#32))
/-- A whole layer's result: the product of the hidden activations. -/
def refX (B : Vec Ideal WH .f32) (W : Vec Ideal WO .f32) : Vec Ideal WX .f32 :=
  Host.dotGeneral (F := Ideal) (φ₁ := .f32) (φ₂ := .f32) Cert.ReferenceIdeal.dot_S64x8192_S8192x4096_S64x4096_1_0_0_1_n_n none B W

theorem refH_at (A : Vec Ideal WX .f32) (W : Vec Ideal WI .f32) (r : Fin 64) (k : Fin 8192) :
    refH A W (ix2 r k) = max (∑ i : Fin 4096, (A (ix2 r i) : EReal) * W (ix2 i k)) 0 := by
  show max (Host.dotGeneral (F := Ideal) (φ₁ := .f32) (φ₂ := .f32) (DotDims.plain 64 4096 8192) none A W (ix2 r k) : EReal)
    (Ideal.ofBits .f32 0x00000000#32) = _
  rw [dotGeneral_plain_apply, Ideal.ofBits_zero_f32]

theorem refX_at (B : Vec Ideal WH .f32) (W : Vec Ideal WO .f32) (r : Fin 64) (i : Fin 4096) :
    refX B W (ix2 r i) = ∑ k : Fin 8192, (B (ix2 r k) : EReal) * W (ix2 k i) :=
  dotGeneral_plain_apply (m := 64) (k := 8192) (n := 4096) (φ₁ := .f32) (φ₂ := .f32) none B W r i

/-- What reference layer `n` reads. -/
def refL (A : Vec Ideal WX .f32) (wi : Fin 3 → Vec Ideal WI .f32) (wo : Fin 3 → Vec Ideal WO .f32) : ℕ → Vec Ideal WX .f32
  | 0 => A
  | n + 1 => refX (refH (refL A wi wo n) (wi (Fin.ofNat 3 n))) (wo (Fin.ofNat 3 n))

/-! ## Layer by layer -/

variable (K : Inp Ideal)

/-- If the devices hold the blocks of `A` and of `W`, they compute the blocks of the rectified product. -/
theorem up_step (X : Dev nD → Vec Ideal S64x2048 .f32) (A : Vec Ideal WX .f32) (l : Fin 3) (W : Vec Ideal WI .f32)
    (hX : ∀ c (r : Fin 64) (i : Fin 2048), X c (ix2 r i) = A (ix2 r (half (cy c) i)))
    (hW : ∀ c (i : Fin 2048) (k : Fin 4096), K.wi l c (ix2 i k) = W (ix2 (half (cy c) i) (half (cx c) k)))
    (c : Dev nD) (r : Fin 64) (k : Fin 4096) : upH K X l c (ix2 r k) = refH A W (ix2 r (half (cx c) k)) := by
  rw [upH_at, refH_at]
  refine congrArg (max · (0 : EReal)) ?_
  refine Eq.trans ?_ (sum_halves (n := 2048) (fun i => (A (ix2 r i) : EReal) * W (ix2 i (half (cx c) k))) (cy c)).symm
  simp only [hX, hW, cy_yd, cx_yd]

/-- If the devices hold the blocks of `B` and of `W`, they compute the blocks of the product. -/
theorem down_step (Y : Dev nD → Vec Ideal S64x4096 .f32) (B : Vec Ideal WH .f32) (l : Fin 3) (W : Vec Ideal WO .f32)
    (hY : ∀ c (r : Fin 64) (k : Fin 4096), Y c (ix2 r k) = B (ix2 r (half (cx c) k)))
    (hW : ∀ c (k : Fin 4096) (i : Fin 2048), K.wo l c (ix2 k i) = W (ix2 (half (cx c) k) (half (cy c) i)))
    (c : Dev nD) (r : Fin 64) (i : Fin 2048) : dnX K Y l c (ix2 r i) = refX B W (ix2 r (half (cy c) i)) := by
  rw [dnX_at, refX_at]
  refine Eq.trans ?_ (sum_halves (n := 4096) (fun k => (B (ix2 r k) : EReal) * W (ix2 k (half (cy c) i))) (cx c)).symm
  simp only [hY, hW, cx_xd, cy_xd]

/-- What layer `n` reads on a device is its block of what the reference's layer `n` reads. -/
theorem layers (A : Vec Ideal WX .f32) (wi : Fin 3 → Vec Ideal WI .f32) (wo : Fin 3 → Vec Ideal WO .f32)
    (hx : ∀ c (r : Fin 64) (i : Fin 2048), K.x c (ix2 r i) = A (ix2 r (half (cy c) i)))
    (hi : ∀ l c (i : Fin 2048) (k : Fin 4096), K.wi l c (ix2 i k) = wi l (ix2 (half (cy c) i) (half (cx c) k)))
    (ho : ∀ l c (k : Fin 4096) (i : Fin 2048), K.wo l c (ix2 k i) = wo l (ix2 (half (cx c) k) (half (cy c) i))) :
    ∀ (n : ℕ) (c : Dev nD) (r : Fin 64) (i : Fin 2048), XL K n c (ix2 r i) = refL A wi wo n (ix2 r (half (cy c) i))
  | 0 => hx
  | n + 1 => fun c r i =>
    down_step K _ _ (Fin.ofNat 3 n) _ (up_step K _ _ (Fin.ofNat 3 n) _ (layers A wi wo hx hi ho n) (hi _)) (ho _) c r i

/-! ## The claim -/

theorem read_x {F : FTy → Type} (f : S64x2048.Idx → Elt F .f32) : (win0_0.blk (0 : Fin 1)).view.read (Elt F) f = f := by
  funext i
  refine congrArg f (funext fun a => Fin.ext ?_)
  fin_cases a
  · show 0 + 1 * (i 0).val = (i 0).val; omega
  · show 0 + 1 * (i 1).val = (i 1).val; omega
theorem read_o {F : FTy → Type} (f : S64x2048.Idx → Elt F .f32) : (win0_1.blk (0 : Fin 1)).view.read (Elt F) f = f := by
  funext i
  refine congrArg f (funext fun a => Fin.ext ?_)
  fin_cases a
  · show 0 + 1 * (i 0).val = (i 0).val; omega
  · show 0 + 1 * (i 1).val = (i 1).val; omega

/-- The reference's arrays, in its one device's memory. -/
abbrev RMem : Type := (ℓ : Loc Cert.ReferenceIdeal.nD Cert.ReferenceIdeal.τ Cert.ReferenceIdeal.sig) → Buf (Elt Ideal) ℓ

/-- The whole array in a buffer of the reference. -/
def whole (m' : RMem) (b : Ref Cert.ReferenceIdeal.sig .tc) : Buf (Elt Ideal)
    (((0 : Dev Cert.ReferenceIdeal.nD).tc : Thread Cert.ReferenceIdeal.nD Cert.ReferenceIdeal.τ).loc b) := m' _

def wholeI (m' : RMem) : Fin 3 → Vec Ideal WI .f32
  | 0 => whole m' Cert.ReferenceIdeal.main_arg1 | 1 => whole m' Cert.ReferenceIdeal.main_arg3 | 2 => whole m' Cert.ReferenceIdeal.main_arg5
def wholeO (m' : RMem) : Fin 3 → Vec Ideal WO .f32
  | 0 => whole m' Cert.ReferenceIdeal.main_arg2 | 1 => whole m' Cert.ReferenceIdeal.main_arg4 | 2 => whole m' Cert.ReferenceIdeal.main_arg6

/-- The reference's result. -/
def refOut (m' : RMem) : Vec Ideal WX .f32 := refL (whole m' Cert.ReferenceIdeal.main_arg0) (wholeI m') (wholeO m') 3

/-- Over the extended reals each device ends with its block of the reference's result. -/
theorem algebraic : Cert.algebraic_KernelIdeal_ReferenceIdeal (hKernelIdeal := Gen.facts) (hReferenceIdeal := Cert.ReferenceIdeal.Gen.facts) := by
  intro m ρ m' ρ' _ hin
  refine ⟨refOut m', ?_, ?_⟩
  · refine (θ_run defs _ _).mono (fun r h c => ⟨((h.1 c).1 (1 : Fin 2)).trans ?_, args_kept m ρ r h.1 c⟩) (run_main (F := Ideal) m ρ)
    have ho := finalA_o (F := Ideal) m ρ c
    rw [read_o] at ho
    refine ho.trans (funext fun i => ?_)
    obtain ⟨r, k, rfl⟩ : ∃ (r : Fin 64) (k : Fin 2048), i = ix2 r k := ⟨i 0, i 1, eq_ix2 i⟩
    refine Eq.trans ?_ (block_x c (refOut m') r k).symm
    refine layers (inp m) _ (wholeI m') (wholeO m') (fun c r i => ?_) (fun l c i k => ?_) (fun l c k i => ?_) 3 c r k
    · refine (congrFun (read_x (F := Ideal) _) _).trans ?_
      rw [(hin c).1]
      exact block_x c _ r i
    · obtain ⟨-, h1, -, h3, -, h5, -⟩ := hin c
      fin_cases l
      · exact (congrFun h1 _).trans (block_i c _ i k)
      · exact (congrFun h3 _).trans (block_i c _ i k)
      · exact (congrFun h5 _).trans (block_i c _ i k)
    · obtain ⟨-, -, h2, -, h4, -, h6⟩ := hin c
      fin_cases l
      · exact (congrFun h2 _).trans (block_o c _ k i)
      · exact (congrFun h4 _).trans (block_o c _ k i)
      · exact (congrFun h6 _).trans (block_o c _ k i)
  · exact (θ_run Cert.ReferenceIdeal.defs _ _).mono (fun r h => h 0) (Cert.ReferenceIdeal.Value.run (F := Ideal) m' ρ')

end Cert.KernelIdeal.Mlp

end
-- ==== Proof.lean ====
/- The certificate of the three-layer tensor-parallel product on a 2×2 mesh. The modules under Proof/Ideal
   prove each claim; this file puts them together. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Ideal.Value
public import Idealize.ShloMosaic.Adequacy
public import Idealize.ShloMosaic.Init

@[expose] public section

noncomputable section

namespace Cert.Proof

open Idealize.ShloMosaic Idealize.SL.Sem Cert.Kernel

/-- Every claim: the three frames, that the ideal program is the kernel's, and that it computes the reference. -/
theorem claim : Cert.Claim :=
  ⟨Cert.Kernel.Gen.facts, Cert.KernelIdeal.Gen.facts, Cert.ReferenceIdeal.Gen.facts,
    Cert.KernelIdeal.Mlp.frame_bits, Cert.KernelIdeal.Mlp.frame_ideal,
    Cert.KernelIdeal.Mlp.frame_ref, trivial, Cert.KernelIdeal.Mlp.algebraic⟩

end Cert.Proof

end
